-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_blocks_tile_finite [hPre_blocks_tile_finite : Cert.Pre_blocks_tile_finite.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_tile_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_tile_finite [hPre_blocks_tile_finite : Cert.Pre_blocks_tile_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_tile_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_blocks_tile_finite [hKernelIdeal : Cert.KernelIdeal.Facts] [hPre_blocks_tile_finite : Cert.Pre_blocks_tile_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_blocks_tile_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_blocks_tile_finite [hReferenceIdeal : Cert.ReferenceIdeal.Facts] [hPre_blocks_tile_finite : Cert.Pre_blocks_tile_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_tile_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n" .f32 0x36E38E39#32 ((1 / 147456 : ℝ) : EReal)

def algebraic_KernelIdeal_ReferenceIdeal_pre_blocks_tile_finite [hKernelIdeal : Cert.KernelIdeal.Facts] [hReferenceIdeal : Cert.ReferenceIdeal.Facts] [hPre_blocks_tile_finite : Cert.Pre_blocks_tile_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_blocks_tile_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_blocks_tile_finite : Cert.Pre_blocks_tile_finite.Facts),
    quiescent_Kernel (hKernel := hKernel)
    ∧ quiescent_KernelIdeal (hKernelIdeal := hKernelIdeal)
    ∧ quiescent_KernelIdeal_pre_blocks_tile_finite (hKernelIdeal := hKernelIdeal) (hPre_blocks_tile_finite := hPre_blocks_tile_finite)
    ∧ quiescent_ReferenceIdeal (hReferenceIdeal := hReferenceIdeal)
    ∧ quiescent_ReferenceIdeal_pre_blocks_tile_finite (hReferenceIdeal := hReferenceIdeal) (hPre_blocks_tile_finite := hPre_blocks_tile_finite)
    ∧ preserves_Kernel_KernelIdeal
    ∧ algebraic_KernelIdeal_ReferenceIdeal_pre_blocks_tile_finite (hKernelIdeal := hKernelIdeal) (hReferenceIdeal := hReferenceIdeal) (hPre_blocks_tile_finite := hPre_blocks_tile_finite)
-- ==== Pre_blocks_tile_finite.lean ====
abbrev S1x192x384x384 : Shape := ⟨4, ![1, 192, 384, 384]⟩
abbrev S64x3 : Shape := ⟨2, ![64, 3]⟩
abbrev S1 : Shape := ⟨1, ![1]⟩
abbrev S192x192x3x3 : Shape := ⟨4, ![192, 192, 3, 3]⟩
abbrev S192 : Shape := ⟨1, ![192]⟩
abbrev S64x1 : Shape := ⟨2, ![64, 1]⟩
abbrev S64 : Shape := ⟨1, ![64]⟩
abbrev S_ : Shape := ⟨0, ![]⟩
abbrev S1x64 : Shape := ⟨2, ![1, 64]⟩
abbrev S64x64 : Shape := ⟨2, ![64, 64]⟩

class Facts : Prop where
  slices_S64x3_S64x1_0_1 : S64x3.Slices ![0, 1] S64x1
  shapeCasts_S64x1_S64 : S64x1.ShapeCasts S64
  slices_S64x3_S64x1_0_2 : S64x3.Slices ![0, 2] S64x1
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S1x192x384x384 : S_.BroadcastsInDim S1x192x384x384 (![] : Fin 0 → Fin S1x192x384x384.rank)
  reducesTo_S1x192x384x384_S_d0_1_2_3 : S1x192x384x384.ReducesTo [0, 1, 2, 3] S_
  h_S_ : 0 < S_.numel
  bcast_S_S192x192x3x3 : S_.BroadcastsInDim S192x192x3x3 (![] : Fin 0 → Fin S192x192x3x3.rank)
  reducesTo_S192x192x3x3_S_d0_1_2_3 : S192x192x3x3.ReducesTo [0, 1, 2, 3] S_
  bcast_S_S192 : S_.BroadcastsInDim S192 (![] : Fin 0 → Fin S192.rank)
  reducesTo_S192_S_d0 : S192.ReducesTo [0] S_
  bcast_S_S64x64 : S_.BroadcastsInDim S64x64 (![] : Fin 0 → Fin S64x64.rank)

variable [Facts]

def fn_part2 {F : FTy → Type} [FloatOps F] (main_arg4 : FVec F S192 .f32) (main_arg5 : FVec F S192 .f32) (main_v14 : IVec S64 1) (main_v29 : IVec S64x64 1) (main_v38 : IVec S_ 1) : IVec S64x64 1 :=
  let main_v39 : FVec F S192 .f32 := Host.absf main_arg4
  let main_cst_7 : FVec F S_ .f32 := constant S_ .f32 0x7F800000#32
  let main_v40 : FVec F S192 .f32 := broadcastInDim S192 ![] bcast_S_S192 main_cst_7
  let main_v41 : IVec S192 1 := cmpf .olt main_v39 main_v40
  let main_c_8 : IVec S_ 1 := constantI S_ 1 1#1
  let main_v42 : IVec S_ 1 := (fun x v => Host.reduce IntOp.andi x v reducesTo_S192_S_d0 h_S_) main_v41 main_c_8
  let main_v43 : IVec S_ 1 := andi main_v38 main_v42
  let main_v44 : FVec F S192 .f32 := Host.absf main_arg5
  let main_cst_9 : FVec F S_ .f32 := constant S_ .f32 0x7F800000#32
  let main_v45 : FVec F S192 .f32 := broadcastInDim S192 ![] bcast_S_S192 main_cst_9
  let main_v46 : IVec S192 1 := cmpf .olt main_v44 main_v45
  let main_c_10 : IVec S_ 1 := constantI S_ 1 1#1
  let main_v47 : IVec S_ 1 := (fun x v => Host.reduce IntOp.andi x v reducesTo_S192_S_d0 h_S_) main_v46 main_c_10
  let main_v48 : IVec S_ 1 := andi main_v43 main_v47
  let main_v49 : IVec S64x1 1 := broadcastInDim S64x1 ![0] bcast_S64_S64x1_0 main_v14
  let main_v50 : IVec S64x64 1 := broadcastInDim S64x64 ![0, 1] bcast_S64x1_S64x64_0_1 main_v49
  let main_v51 : IVec S64x64 1 := andi main_v29 main_v50
  let main_v52 : IVec S64x64 1 := broadcastInDim S64x64 ![] bcast_S_S64x64 main_v48
  let main_v53 : IVec S64x64 1 := andi main_v51 main_v52
  main_v53

def fn_part1 {F : FTy → Type} [FloatOps F] (main_arg0 : FVec F S1x192x384x384 .f32) (main_arg3 : FVec F S192x192x3x3 .f32) (main_arg4 : FVec F S192 .f32) (main_arg5 : FVec F S192 .f32) (main_v14 : IVec S64 1) (main_v17 : IVec S64 32) (main_v18 : IVec S64 32) : IVec S64x64 1 :=
  let main_v19 : IVec S64x1 32 := broadcastInDim S64x1 ![0] bcast_S64_S64x1_0 main_v17
  let main_v20 : IVec S1x64 32 := broadcastInDim S1x64 ![1] bcast_S64_S1x64_1 main_v17
  let main_v21 : IVec S64x64 32 := broadcastInDim S64x64 ![0, 1] bcast_S64x1_S64x64_0_1 main_v19
  let main_v22 : IVec S64x64 32 := broadcastInDim S64x64 ![0, 1] bcast_S1x64_S64x64_0_1 main_v20
  let main_v23 : IVec S64x64 1 := cmpi .ne main_v21 main_v22
  let main_v24 : IVec S64x1 32 := broadcastInDim S64x1 ![0] bcast_S64_S64x1_0 main_v18
  let main_v25 : IVec S1x64 32 := broadcastInDim S1x64 ![1] bcast_S64_S1x64_1 main_v18
  let main_v26 : IVec S64x64 32 := broadcastInDim S64x64 ![0, 1] bcast_S64x1_S64x64_0_1 main_v24
  let main_v27 : IVec S64x64 32 := broadcastInDim S64x64 ![0, 1] bcast_S1x64_S64x64_0_1 main_v25
  let main_v28 : IVec S64x64 1 := cmpi .eq main_v26 main_v27
  let main_v29 : IVec S64x64 1 := ori main_v23 main_v28
  let main_v30 : FVec F S1x192x384x384 .f32 := Host.absf main_arg0
  let main_cst : FVec F S_ .f32 := constant S_ .f32 0x7F800000#32
  let main_v31 : FVec F S1x192x384x384 .f32 := broadcastInDim S1x192x384x384 ![] bcast_S_S1x192x384x384 main_cst
  let main_v32 : IVec S1x192x384x384 1 := cmpf .olt main_v30 main_v31
  let main_c_4 : IVec S_ 1 := constantI S_ 1 1#1
  let main_v33 : IVec S_ 1 := (fun x v => Host.reduce IntOp.andi x v reducesTo_S1x192x384x384_S_d0_1_2_3 h_S_) main_v32 main_c_4
  let main_v34 : FVec F S192x192x3x3 .f32 := Host.absf main_arg3
  let main_cst_5 : FVec F S_ .f32 := constant S_ .f32 0x7F800000#32
  let main_v35 : FVec F S192x192x3x3 .f32 := broadcastInDim S192x192x3x3 ![] bcast_S_S192x192x3x3 main_cst_5
  let main_v36 : IVec S192x192x3x3 1 := cmpf .olt main_v34 main_v35
  let main_c_6 : IVec S_ 1 := constantI S_ 1 1#1
  let main_v37 : IVec S_ 1 := (fun x v => Host.reduce IntOp.andi x v reducesTo_S192x192x3x3_S_d0_1_2_3 h_S_) main_v36 main_c_6
  let main_v38 : IVec S_ 1 := andi main_v33 main_v37
  fn_part2 (F := F) main_arg4 main_arg5 main_v14 main_v29 main_v38

def fn {F : FTy → Type} [FloatOps F] (main_arg0 : FVec F S1x192x384x384 .f32) (main_arg1 : IVec S64x3 32) (main_arg2 : IVec S1 32) (main_arg3 : FVec F S192x192x3x3 .f32) (main_arg4 : FVec F S192 .f32) (main_arg5 : FVec F S192 .f32) (main_arg6 : FVec F S192 .f32) : IVec S64x64 1 :=
  let main_v0 : IVec S64x1 32 := (extractStridedSlice S64x1 ![0, 1] · slices_S64x3_S64x1_0_1) main_arg1
  let main_v1 : IVec S64 32 := shapeCast S64 main_v0 shapeCasts_S64x1_S64
  let main_v2 : IVec S64x1 32 := (extractStridedSlice S64x1 ![0, 2] · slices_S64x3_S64x1_0_2) main_arg1
  let main_v3 : IVec S64 32 := shapeCast S64 main_v2 shapeCasts_S64x1_S64
  let main_c : IVec S_ 32 := constantI S_ 32 0#32
  let main_v4 : IVec S64 32 := broadcastInDim S64 ![] bcast_S_S64 main_c
  let main_v5 : IVec S64 1 := cmpi .sge main_v1 main_v4
  let main_c_0 : IVec S_ 32 := constantI S_ 32 8#32
  let main_v6 : IVec S64 32 := broadcastInDim S64 ![] bcast_S_S64 main_c_0
  let main_v7 : IVec S64 1 := cmpi .slt main_v1 main_v6
  let main_v8 : IVec S64 1 := andi main_v5 main_v7
  let main_c_1 : IVec S_ 32 := constantI S_ 32 0#32
  let main_v9 : IVec S64 32 := broadcastInDim S64 ![] bcast_S_S64 main_c_1
  let main_v10 : IVec S64 1 := cmpi .sge main_v3 main_v9
  let main_v11 : IVec S64 1 := andi main_v8 main_v10
  let main_c_2 : IVec S_ 32 := constantI S_ 32 8#32
  let main_v12 : IVec S64 32 := broadcastInDim S64 ![] bcast_S_S64 main_c_2
  let main_v13 : IVec S64 1 := cmpi .slt main_v3 main_v12
  let main_v14 : IVec S64 1 := andi main_v11 main_v13
  let main_c_3 : IVec S_ 32 := constantI S_ 32 8#32
  let main_v15 : IVec S64 32 := broadcastInDim S64 ![] bcast_S_S64 main_c_3
  let main_v16 : IVec S64 32 := muli main_v1 main_v15
  let main_v17 : IVec S64 32 := addi main_v16 main_v3
  let main_v18 : IVec S64 32 := iotaInDim S64 32 0
  fn_part1 (F := F) main_arg0 main_arg3 main_arg4 main_arg5 main_v14 main_v17 main_v18
-- ==== Kernel.lean ====
abbrev S1x192x384x384 : Shape := ⟨4, ![1, 192, 384, 384]⟩
abbrev S64x3 : Shape := ⟨2, ![64, 3]⟩
abbrev S1 : Shape := ⟨1, ![1]⟩
abbrev S192x192x3x3 : Shape := ⟨4, ![192, 192, 3, 3]⟩
abbrev S192 : Shape := ⟨1, ![192]⟩
abbrev S192x384x384 : Shape := ⟨3, ![192, 384, 384]⟩
abbrev S3x3x192x192 : Shape := ⟨4, ![3, 3, 192, 192]⟩
abbrev S9x192x192 : Shape := ⟨3, ![9, 192, 192]⟩
abbrev S147456x192 : Shape := ⟨2, ![147456, 192]⟩
abbrev S2x192 : Shape := ⟨2, ![2, 192]⟩
abbrev S192x16x384 : Shape := ⟨3, ![192, 16, 384]⟩
abbrev S192x8x384 : Shape := ⟨3, ![192, 8, 384]⟩
abbrev S6144x192 : Shape := ⟨2, ![6144, 192]⟩
abbrev S192x3072 : Shape := ⟨2, ![192, 3072]⟩
abbrev S192x384 : Shape := ⟨2, ![192, 384]⟩
abbrev S192x6144 : Shape := ⟨2, ![192, 6144]⟩
abbrev S192x6912 : Shape := ⟨2, ![192, 6912]⟩
abbrev S6912x192 : Shape := ⟨2, ![6912, 192]⟩
abbrev S18x384x192 : Shape := ⟨3, ![18, 384, 192]⟩
abbrev S18x1x192 : Shape := ⟨3, ![18, 1, 192]⟩
abbrev S18x386x192 : Shape := ⟨3, ![18, 386, 192]⟩
abbrev S16x384x192 : Shape := ⟨3, ![16, 384, 192]⟩
abbrev S1x192x192 : Shape := ⟨3, ![1, 192, 192]⟩
abbrev S192x192 : Shape := ⟨2, ![192, 192]⟩
abbrev S1x192 : Shape := ⟨2, ![1, 192]⟩

abbrev nBuf : Space → Nat
  | .hbm => 17
  | .vmem => 17
  | .smem => 0
  | _ => 0

abbrev bufTy : (tb : Table) → Fin (tcTables nBuf tb) → BufTy
  | .hbm, ⟨0, _⟩ => ⟨S1x192x384x384, .f32⟩
  | .hbm, ⟨1, _⟩ => ⟨S64x3, .i32⟩
  | .hbm, ⟨2, _⟩ => ⟨S1, .i32⟩
  | .hbm, ⟨3, _⟩ => ⟨S192x192x3x3, .f32⟩
  | .hbm, ⟨4, _⟩ => ⟨S192, .f32⟩
  | .hbm, ⟨5, _⟩ => ⟨S192, .f32⟩
  | .hbm, ⟨6, _⟩ => ⟨S192, .f32⟩
  | .hbm, ⟨7, _⟩ => ⟨S192x384x384, .f32⟩
  | .hbm, ⟨8, _⟩ => ⟨S3x3x192x192, .f32⟩
  | .hbm, ⟨9, _⟩ => ⟨S9x192x192, .f32⟩
  | .hbm, ⟨10, _⟩ => ⟨S9x192x192, .bf16⟩
  | .hbm, ⟨11, _⟩ => ⟨S147456x192, .bf16⟩
  | .hbm, ⟨12, _⟩ => ⟨S2x192, .f32⟩
  | .hbm, ⟨13, _⟩ => ⟨S1x192, .f32⟩
  | .hbm, ⟨14, _⟩ => ⟨S1x192, .f32⟩
  | .hbm, ⟨15, _⟩ => ⟨S192x384x384, .f32⟩
  | .hbm, ⟨16, _⟩ => ⟨S1x192x384x384, .f32⟩
  | .local _ .vmem, ⟨0, _⟩ => ⟨S192x16x384, .f32⟩
  | .local _ .vmem, ⟨1, _⟩ => ⟨S192x16x384, .f32⟩
  | .local _ .vmem, ⟨2, _⟩ => ⟨S192x8x384, .f32⟩
  | .local _ .vmem, ⟨3, _⟩ => ⟨S192x8x384, .f32⟩
  | .local _ .vmem, ⟨4, _⟩ => ⟨S192x8x384, .f32⟩
  | .local _ .vmem, ⟨5, _⟩ => ⟨S192x8x384, .f32⟩
  | .local _ .vmem, ⟨6, _⟩ => ⟨S9x192x192, .bf16⟩
  | .local _ .vmem, ⟨7, _⟩ => ⟨S6144x192, .bf16⟩
  | .local _ .vmem, ⟨8, _⟩ => ⟨S6144x192, .bf16⟩
  | .local _ .vmem, ⟨9, _⟩ => ⟨S2x192, .f32⟩
  | .local _ .vmem, ⟨10, _⟩ => ⟨S6144x192, .bf16⟩
  | .local _ .vmem, ⟨11, _⟩ => ⟨S6144x192, .bf16⟩
  | .local _ .vmem, ⟨12, _⟩ => ⟨S2x192, .f32⟩
  | .local _ .vmem, ⟨13, _⟩ => ⟨S1x192, .f32⟩
  | .local _ .vmem, ⟨14, _⟩ => ⟨S1x192, .f32⟩
  | .local _ .vmem, ⟨15, _⟩ => ⟨S192x16x384, .f32⟩
  | .local _ .vmem, ⟨16, _⟩ => ⟨S192x16x384, .f32⟩
  | _, _ => ⟨S1x192x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c47_i32 : BitVec 32 := 47#32
  let v2 : BitVec 32 := Scalar.minsi v1 c47_i32
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6144x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S6144x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S192x16x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "inv_n" => some ((1 / 147456 : ℝ) : EReal)
  | _ => none
-- ==== ReferenceIdeal.lean ====
abbrev S1x192x384x384 : Shape := ⟨4, ![1, 192, 384, 384]⟩
abbrev S64x3 : Shape := ⟨2, ![64, 3]⟩
abbrev S1 : Shape := ⟨1, ![1]⟩
abbrev S192x192x3x3 : Shape := ⟨4, ![192, 192, 3, 3]⟩
abbrev S192 : Shape := ⟨1, ![192]⟩
abbrev S_ : Shape := ⟨0, ![]⟩
abbrev S1x192x386x386 : Shape := ⟨4, ![1, 192, 386, 386]⟩
abbrev S64x1 : Shape := ⟨2, ![64, 1]⟩
abbrev S64 : Shape := ⟨1, ![64]⟩
abbrev S64x4 : Shape := ⟨2, ![64, 4]⟩
abbrev S64x1x192x50x50 : Shape := ⟨5, ![64, 1, 192, 50, 50]⟩
abbrev S64x192x50x50 : Shape := ⟨4, ![64, 192, 50, 50]⟩
abbrev S64x192x48x48 : Shape := ⟨4, ![64, 192, 48, 48]⟩
abbrev S192x192x1x1 : Shape := ⟨4, ![192, 192, 1, 1]⟩
abbrev S192x192 : Shape := ⟨2, ![192, 192]⟩
abbrev S192x64x48x48 : Shape := ⟨4, ![192, 64, 48, 48]⟩
abbrev S1x192x1x1 : Shape := ⟨4, ![1, 192, 1, 1]⟩
abbrev S1x3 : Shape := ⟨2, ![1, 3]⟩
abbrev S3 : Shape := ⟨1, ![3]⟩
abbrev S1x192x48x48 : Shape := ⟨4, ![1, 192, 48, 48]⟩

abbrev nBuf : Space → Nat
  | .hbm => 239
  | .vmem => 0
  | .smem => 0
  | _ => 0

abbrev hbmTy0_0 (i : Nat) : BufTy := match i % 128 with
  | 0 => ⟨S1x192x384x384, .f32⟩
  | 1 => ⟨S64x3, .i32⟩
  | 2 => ⟨S1, .i32⟩
  | 3 => ⟨S192x192x3x3, .f32⟩
  | 4 => ⟨S192, .f32⟩
  | 5 => ⟨S192, .f32⟩
  | 6 => ⟨S192, .f32⟩
  | 7 => ⟨S_, .i32⟩
  | 8 => ⟨S_, .f32⟩
  | 9 => ⟨S1x192x386x386, .f32⟩
  | 10 => ⟨S64x1, .i32⟩
  | 11 => ⟨S64, .i32⟩
  | 12 => ⟨S64x1, .i32⟩
  | 13 => ⟨S64, .i32⟩
  | 14 => ⟨S_, .i32⟩
  | 15 => ⟨S64, .i32⟩
  | 16 => ⟨S64, .i32⟩
  | 17 => ⟨S64x1, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i1⟩
  | 25 => ⟨S_, .i32⟩
  | 26 => ⟨S64, .i32⟩
  | 27 => ⟨S64, .i32⟩
  | 28 => ⟨S64, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S64, .i32⟩
  | 39 => ⟨S64, .i1⟩
  | 40 => ⟨S_, .i32⟩
  | 41 => ⟨S64, .i32⟩
  | 42 => ⟨S64, .i32⟩
  | 43 => ⟨S64, .i32⟩
  | 44 => ⟨S_, .i32⟩
  | 45 => ⟨S64, .i32⟩
  | 46 => ⟨S64, .i1⟩
  | 47 => ⟨S_, .i32⟩
  | 48 => ⟨S64, .i32⟩
  | 49 => ⟨S64, .i32⟩
  | 50 => ⟨S64, .i32⟩
  | 51 => ⟨S64x1, .i32⟩
  | 52 => ⟨S64x1, .i32⟩
  | 53 => ⟨S64x1, .i32⟩
  | 54 => ⟨S64x1, .i32⟩
  | 55 => ⟨S64x4, .i32⟩
  | 56 => ⟨S64x1x192x50x50, .f32⟩
  | 57 => ⟨S64x192x50x50, .f32⟩
  | 58 => ⟨S_, .f32⟩
  | 59 => ⟨S64x192x48x48, .f32⟩
  | 60 => ⟨S64x192x48x48, .f32⟩
  | 61 => ⟨S192x192x1x1, .f32⟩
  | 62 => ⟨S192x192, .f32⟩
  | 63 => ⟨S192x64x48x48, .f32⟩
  | 64 => ⟨S64x192x48x48, .f32⟩
  | 65 => ⟨S64x192x48x48, .f32⟩
  | 66 => ⟨S64x192x48x48, .f32⟩
  | 67 => ⟨S192x192x1x1, .f32⟩
  | 68 => ⟨S192x192, .f32⟩
  | 69 => ⟨S192x64x48x48, .f32⟩
  | 70 => ⟨S64x192x48x48, .f32⟩
  | 71 => ⟨S64x192x48x48, .f32⟩
  | 72 => ⟨S64x192x48x48, .f32⟩
  | 73 => ⟨S192x192x1x1, .f32⟩
  | 74 => ⟨S192x192, .f32⟩
  | 75 => ⟨S192x64x48x48, .f32⟩
  | 76 => ⟨S64x192x48x48, .f32⟩
  | 77 => ⟨S64x192x48x48, .f32⟩
  | 78 => ⟨S64x192x48x48, .f32⟩
  | 79 => ⟨S192x192x1x1, .f32⟩
  | 80 => ⟨S192x192, .f32⟩
  | 81 => ⟨S192x64x48x48, .f32⟩
  | 82 => ⟨S64x192x48x48, .f32⟩
  | 83 => ⟨S64x192x48x48, .f32⟩
  | 84 => ⟨S64x192x48x48, .f32⟩
  | 85 => ⟨S192x192x1x1, .f32⟩
  | 86 => ⟨S192x192, .f32⟩
  | 87 => ⟨S192x64x48x48, .f32⟩
  | 88 => ⟨S64x192x48x48, .f32⟩
  | 89 => ⟨S64x192x48x48, .f32⟩
  | 90 => ⟨S64x192x48x48, .f32⟩
  | 91 => ⟨S192x192x1x1, .f32⟩
  | 92 => ⟨S192x192, .f32⟩
  | 93 => ⟨S192x64x48x48, .f32⟩
  | 94 => ⟨S64x192x48x48, .f32⟩
  | 95 => ⟨S64x192x48x48, .f32⟩
  | 96 => ⟨S64x192x48x48, .f32⟩
  | 97 => ⟨S192x192x1x1, .f32⟩
  | 98 => ⟨S192x192, .f32⟩
  | 99 => ⟨S192x64x48x48, .f32⟩
  | 100 => ⟨S64x192x48x48, .f32⟩
  | 101 => ⟨S64x192x48x48, .f32⟩
  | 102 => ⟨S64x192x48x48, .f32⟩
  | 103 => ⟨S192x192x1x1, .f32⟩
  | 104 => ⟨S192x192, .f32⟩
  | 105 => ⟨S192x64x48x48, .f32⟩
  | 106 => ⟨S64x192x48x48, .f32⟩
  | 107 => ⟨S64x192x48x48, .f32⟩
  | 108 => ⟨S64x192x48x48, .f32⟩
  | 109 => ⟨S192x192x1x1, .f32⟩
  | 110 => ⟨S192x192, .f32⟩
  | 111 => ⟨S192x64x48x48, .f32⟩
  | 112 => ⟨S64x192x48x48, .f32⟩
  | 113 => ⟨S64x192x48x48, .f32⟩
  | 114 => ⟨S1x192x1x1, .f32⟩
  | 115 => ⟨S64x192x48x48, .f32⟩
  | 116 => ⟨S64x192x48x48, .f32⟩
  | 117 => ⟨S_, .f32⟩
  | 118 => ⟨S192, .f32⟩
  | 119 => ⟨S_, .f32⟩
  | 120 => ⟨S192, .f32⟩
  | 121 => ⟨S192, .f32⟩
  | 122 => ⟨S_, .i32⟩
  | 123 => ⟨S_, .f32⟩
  | 124 => ⟨S192, .f32⟩
  | 125 => ⟨S1x192x1x1, .f32⟩
  | 126 => ⟨S_, .f32⟩
  | 127 => ⟨S1x192x1x1, .f32⟩
  | _ => ⟨S1x192x384x384, .f32⟩

abbrev hbmTy0_1 (i : Nat) : BufTy := match i % 128 with
  | 0 => ⟨S1x192x1x1, .f32⟩
  | 1 => ⟨S64x192x48x48, .f32⟩
  | 2 => ⟨S64x192x48x48, .f32⟩
  | 3 => ⟨S64x192x48x48, .f32⟩
  | 4 => ⟨S_, .f32⟩
  | 5 => ⟨S_, .f32⟩
  | 6 => ⟨S_, .f32⟩
  | 7 => ⟨S_, .f32⟩
  | 8 => ⟨S192, .f32⟩
  | 9 => ⟨S192, .f32⟩
  | 10 => ⟨S192, .f32⟩
  | 11 => ⟨S_, .f32⟩
  | 12 => ⟨S_, .i1⟩
  | 13 => ⟨S_, .f32⟩
  | 14 => ⟨S_, .f32⟩
  | 15 => ⟨S192, .f32⟩
  | 16 => ⟨S192, .f32⟩
  | 17 => ⟨S1x192x1x1, .f32⟩
  | 18 => ⟨S64x192x48x48, .f32⟩
  | 19 => ⟨S64x192x48x48, .f32⟩
  | 20 => ⟨S1x192x1x1, .f32⟩
  | 21 => ⟨S_, .f32⟩
  | 22 => ⟨S1x192x1x1, .f32⟩
  | 23 => ⟨S1x192x1x1, .f32⟩
  | 24 => ⟨S1x192x1x1, .f32⟩
  | 25 => ⟨S64x192x48x48, .f32⟩
  | 26 => ⟨S64x192x48x48, .f32⟩
  | 27 => ⟨S1x192x1x1, .f32⟩
  | 28 => ⟨S64x192x48x48, .f32⟩
  | 29 => ⟨S64x192x48x48, .f32⟩
  | 30 => ⟨S1x192x1x1, .f32⟩
  | 31 => ⟨S64x192x48x48, .f32⟩
  | 32 => ⟨S64x192x48x48, .f32⟩
  | 33 => ⟨S_, .f32⟩
  | 34 => ⟨S64x192x48x48, .f32⟩
  | 35 => ⟨S64x192x48x48, .f32⟩
  | 36 => ⟨S_, .f32⟩
  | 37 => ⟨S1x192x384x384, .f32⟩
  | 38 => ⟨S_, .i32⟩
  | 39 => ⟨S_, .i32⟩
  | 40 => ⟨S64x3, .i32⟩
  | 41 => ⟨S64x192x48x48, .f32⟩
  | 42 => ⟨S_, .i32⟩
  | 43 => ⟨S_, .i32⟩
  | 44 => ⟨S1x192x384x384, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x3, .i32⟩
  | 64 => ⟨S3, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x192x48x48, .f32⟩
  | 75 => ⟨S1, .i32⟩
  | 76 => ⟨S_, .i32⟩
  | 77 => ⟨S1, .i32⟩
  | 78 => ⟨S_, .i32⟩
  | 79 => ⟨S_, .i32⟩
  | 80 => ⟨S_, .i32⟩
  | 81 => ⟨S1, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S1x192x384x384, .f32⟩
  | 109 => ⟨S_, .i32⟩
  | 110 => ⟨S_, .i32⟩
  | _ => ⟨S1x192x384x384, .f32⟩

abbrev hbmTy (i : Nat) : BufTy := match i / 128 with
  | 0 => hbmTy0_0 i
  | 1 => hbmTy0_1 i
  | _ => ⟨S1x192x384x384, .f32⟩

abbrev bufTy : (tb : Table) → Fin (tcTables nBuf tb) → BufTy
  | .hbm, ⟨i, _⟩ => hbmTy i
  | _, _ => ⟨S1x192x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_c_5 : Ref sig .tc := ⟨.hbm, 30, rfl⟩
abbrev main_v16 : Ref sig .tc := ⟨.hbm, 31, rfl⟩
abbrev main_c_6 : Ref sig .tc := ⟨.hbm, 32, rfl⟩
abbrev main_c_7 : Ref sig .tc := ⟨.hbm, 33, rfl⟩
abbrev main_v17 : Ref sig .tc := ⟨.hbm, 34, rfl⟩
abbrev main_c_8 : Ref sig .tc := ⟨.hbm, 35, rfl⟩
abbrev main_v18 : Ref sig .tc := ⟨.hbm, 36, rfl⟩
abbrev main_c_9 : Ref sig .tc := ⟨.hbm, 37, rfl⟩
abbrev main_v19 : Ref sig .tc := ⟨.hbm, 38, rfl⟩
abbrev main_v20 : Ref sig .tc := ⟨.hbm, 39, rfl⟩
abbrev main_c_10 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_11 : Ref sig .tc := ⟨.hbm, 44, rfl⟩
abbrev main_v24 : Ref sig .tc := ⟨.hbm, 45, rfl⟩
abbrev main_v25 : Ref sig .tc := ⟨.hbm, 46, rfl⟩
abbrev main_c_12 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_13 : Ref sig .tc := ⟨.hbm, 117, rfl⟩
abbrev main_v94 : Ref sig .tc := ⟨.hbm, 118, rfl⟩
abbrev main_cst_14 : Ref sig .tc := ⟨.hbm, 119, rfl⟩
abbrev main_v95 : Ref sig .tc := ⟨.hbm, 120, rfl⟩
abbrev main_v96 : Ref sig .tc := ⟨.hbm, 121, rfl⟩
abbrev main_c_15 : Ref sig .tc := ⟨.hbm, 122, rfl⟩
abbrev main_call1_cst : Ref sig .tc := ⟨.hbm, 123, rfl⟩
abbrev main_call1_v0 : Ref sig .tc := ⟨.hbm, 124, rfl⟩
abbrev main_call1_v1 : Ref sig .tc := ⟨.hbm, 125, rfl⟩
abbrev main_call1_cst_0 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_cst_1 : Ref sig .tc := ⟨.hbm, 133, rfl⟩
abbrev main_call1_v8 : Ref sig .tc := ⟨.hbm, 134, rfl⟩
abbrev main_call1_cst_2 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_cst_3 : Ref sig .tc := ⟨.hbm, 139, rfl⟩
abbrev main_call1_v12 : Ref sig .tc := ⟨.hbm, 140, rfl⟩
abbrev main_call1_cst_4 : Ref sig .tc := ⟨.hbm, 141, rfl⟩
abbrev main_call1_call0_v0 : Ref sig .tc := ⟨.hbm, 142, rfl⟩
abbrev main_call1_call0_v1 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_16 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call2_cst : Ref sig .tc := ⟨.hbm, 161, rfl⟩
abbrev main_call2_v0 : Ref sig .tc := ⟨.hbm, 162, rfl⟩
abbrev main_v113 : Ref sig .tc := ⟨.hbm, 163, rfl⟩
abbrev main_cst_17 : Ref sig .tc := ⟨.hbm, 164, rfl⟩
abbrev main_v114 : Ref sig .tc := ⟨.hbm, 165, rfl⟩
abbrev main_c_18 : Ref sig .tc := ⟨.hbm, 166, rfl⟩
abbrev main_c_19 : Ref sig .tc := ⟨.hbm, 167, rfl⟩
abbrev main_v115_0 : Ref sig .tc := ⟨.hbm, 168, rfl⟩
abbrev main_v115_1 : Ref sig .tc := ⟨.hbm, 169, rfl⟩
abbrev main_v115_2 : Ref sig .tc := ⟨.hbm, 170, rfl⟩
abbrev main_v115_3 : Ref sig .tc := ⟨.hbm, 171, rfl⟩
abbrev main_v115_4 : Ref sig .tc := ⟨.hbm, 172, rfl⟩
abbrev main_while0c_c_24 : Ref sig .tc := ⟨.hbm, 173, rfl⟩
abbrev main_while0c_v116 : Ref sig .tc := ⟨.hbm, 174, rfl⟩
abbrev main_while0b_c_24 : Ref sig .tc := ⟨.hbm, 175, rfl⟩
abbrev main_while0b_v116 : Ref sig .tc := ⟨.hbm, 176, rfl⟩
abbrev main_while0b_v117 : Ref sig .tc := ⟨.hbm, 177, rfl⟩
abbrev main_while0b_c_25 : Ref sig .tc := ⟨.hbm, 178, rfl⟩
abbrev main_while0b_v118 : Ref sig .tc := ⟨.hbm, 179, rfl⟩
abbrev main_while0b_c_26 : Ref sig .tc := ⟨.hbm, 180, rfl⟩
abbrev main_while0b_v119 : Ref sig .tc := ⟨.hbm, 181, rfl⟩
abbrev main_while0b_v120 : Ref sig .tc := ⟨.hbm, 182, rfl⟩
abbrev main_while0b_c_27 : Ref sig .tc := ⟨.hbm, 183, rfl⟩
abbrev main_while0b_c_28 : Ref sig .tc := ⟨.hbm, 184, rfl⟩
abbrev main_while0b_v121 : Ref sig .tc := ⟨.hbm, 185, rfl⟩
abbrev main_while0b_c_29 : Ref sig .tc := ⟨.hbm, 186, rfl⟩
abbrev main_while0b_c_30 : Ref sig .tc := ⟨.hbm, 187, rfl⟩
abbrev main_while0b_v122 : Ref sig .tc := ⟨.hbm, 188, rfl⟩
abbrev main_while0b_c_31 : Ref sig .tc := ⟨.hbm, 189, rfl⟩
abbrev main_while0b_v123 : Ref sig .tc := ⟨.hbm, 190, rfl⟩
abbrev main_while0b_v124 : Ref sig .tc := ⟨.hbm, 191, rfl⟩
abbrev main_while0b_v125 : Ref sig .tc := ⟨.hbm, 192, rfl⟩
abbrev main_while0b_c_32 : Ref sig .tc := ⟨.hbm, 193, rfl⟩
abbrev main_while0b_v126 : Ref sig .tc := ⟨.hbm, 194, rfl⟩
abbrev main_while0b_v127 : Ref sig .tc := ⟨.hbm, 195, rfl⟩
abbrev main_while0b_c_33 : Ref sig .tc := ⟨.hbm, 196, rfl⟩
abbrev main_while0b_v128 : Ref sig .tc := ⟨.hbm, 197, rfl⟩
abbrev main_while0b_v129 : Ref sig .tc := ⟨.hbm, 198, rfl⟩
abbrev main_while0b_c_34 : Ref sig .tc := ⟨.hbm, 199, rfl⟩
abbrev main_while0b_c_35 : Ref sig .tc := ⟨.hbm, 200, rfl⟩
abbrev main_while0b_c_36 : Ref sig .tc := ⟨.hbm, 201, rfl⟩
abbrev main_while0b_v130 : Ref sig .tc := ⟨.hbm, 202, rfl⟩
abbrev main_while0b_v131 : Ref sig .tc := ⟨.hbm, 203, rfl⟩
abbrev main_while0b_v132 : Ref sig .tc := ⟨.hbm, 204, rfl⟩
abbrev main_while0b_v133 : Ref sig .tc := ⟨.hbm, 205, rfl⟩
abbrev main_while0b_v134 : Ref sig .tc := ⟨.hbm, 206, rfl⟩
abbrev main_while0b_c_37 : Ref sig .tc := ⟨.hbm, 207, rfl⟩
abbrev main_while0b_v135 : Ref sig .tc := ⟨.hbm, 208, rfl⟩
abbrev main_while0b_v136 : Ref sig .tc := ⟨.hbm, 209, rfl⟩
abbrev main_while0b_v137 : Ref sig .tc := ⟨.hbm, 210, rfl⟩
abbrev main_while0b_c_38 : Ref sig .tc := ⟨.hbm, 211, rfl⟩
abbrev main_while0b_v138 : Ref sig .tc := ⟨.hbm, 212, rfl⟩
abbrev main_while0b_c_39 : Ref sig .tc := ⟨.hbm, 213, rfl⟩
abbrev main_while0b_v139 : Ref sig .tc := ⟨.hbm, 214, rfl⟩
abbrev main_while0b_c_40 : Ref sig .tc := ⟨.hbm, 215, rfl⟩
abbrev main_while0b_v140 : Ref sig .tc := ⟨.hbm, 216, rfl⟩
abbrev main_while0b_v141 : Ref sig .tc := ⟨.hbm, 217, rfl⟩
abbrev main_while0b_c_41 : Ref sig .tc := ⟨.hbm, 218, rfl⟩
abbrev main_while0b_c_42 : Ref sig .tc := ⟨.hbm, 219, rfl⟩
abbrev main_while0b_v142 : Ref sig .tc := ⟨.hbm, 220, rfl⟩
abbrev main_while0b_c_43 : Ref sig .tc := ⟨.hbm, 221, rfl⟩
abbrev main_while0b_c_44 : Ref sig .tc := ⟨.hbm, 222, rfl⟩
abbrev main_while0b_v143 : Ref sig .tc := ⟨.hbm, 223, rfl⟩
abbrev main_while0b_c_45 : Ref sig .tc := ⟨.hbm, 224, rfl⟩
abbrev main_while0b_v144 : Ref sig .tc := ⟨.hbm, 225, rfl⟩
abbrev main_while0b_c_46 : Ref sig .tc := ⟨.hbm, 226, rfl⟩
abbrev main_while0b_v145 : Ref sig .tc := ⟨.hbm, 227, rfl⟩
abbrev main_while0b_c_47 : Ref sig .tc := ⟨.hbm, 228, rfl⟩
abbrev main_while0b_v146 : Ref sig .tc := ⟨.hbm, 229, rfl⟩
abbrev main_while0b_v147 : Ref sig .tc := ⟨.hbm, 230, rfl⟩
abbrev main_while0b_c_48 : Ref sig .tc := ⟨.hbm, 231, rfl⟩
abbrev main_while0b_v148 : Ref sig .tc := ⟨.hbm, 232, rfl⟩
abbrev main_while0b_c_49 : Ref sig .tc := ⟨.hbm, 233, rfl⟩
abbrev main_while0b_v149 : Ref sig .tc := ⟨.hbm, 234, rfl⟩
abbrev main_while0b_v150 : Ref sig .tc := ⟨.hbm, 235, rfl⟩
abbrev main_while0b_v151 : Ref sig .tc := ⟨.hbm, 236, rfl⟩
abbrev main_while0b_c_50 : Ref sig .tc := ⟨.hbm, 237, rfl⟩
abbrev main_while0b_v152 : Ref sig .tc := ⟨.hbm, 238, rfl⟩

abbrev nD : Nat := 1
abbrev τ : Topo := Topo.v7x

variable {F : FTy → Type} [FloatOps F]

abbrev main_while0_count : Scf.Loop 32 := ⟨0#32, 64#32, 1#32⟩
-- ==== Proof.KernelRun.lean ====
/-
  The kernel's run with its result: every execution ends, and the result array then holds what the fold of the
  segments leaves in it.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable (m : (ℓ : Loc nD τ sig) → Buf (Elt F) ℓ) (ρ : Dev nD → PrngReg)

set_option backward.isDefEq.respectTransparency.types false in
/-- Every execution of the kernel ends; the result array then holds the last boundary's contents and every argument
    is as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Value

end
-- ==== Proof.Conv.lean ====
/-
  The convolution that both programs compute, as a function on extended reals: the image padded by one row and one
  column of zeros on every side, the product of one tap of the 3 x 3 window summed over the 192 input channels, and
  the nine taps added in the order of the window's rows.
-/
module

public import Idealize.ShloMosaic.Lib.Pointwise
public import Idealize.ShloMosaic.Lib.Pipeline.ValueKit

@[expose] public section

noncomputable section

namespace Cert.Block

open Idealize.ShloMosaic

/-- The image: one batch entry, 192 channels, 384 rows, 384 columns. -/
abbrev Image : Type := (⟨4, ![1, 192, 384, 384]⟩ : Shape).Idx → EReal
/-- The weights: output channel, input channel, window row, window column. -/
abbrev Weights : Type := (⟨4, ![192, 192, 3, 3]⟩ : Shape).Idx → EReal
/-- One number per channel. -/
abbrev Channel : Type := (⟨1, ![192]⟩ : Shape).Idx → EReal

/-- The padded image at channel `ci`, padded row `h`, padded column `w`: zero on the border. -/
def xpad (X : Image) (ci : Fin 192) (h w : ℕ) : EReal :=
  if hw : (1 ≤ h ∧ h < 385) ∧ (1 ≤ w ∧ w < 385) then
    X (ix4 0 ci ⟨h - 1, by omega⟩ ⟨w - 1, by omega⟩)
  else 0

/-- Tap `(dh, dw)` of the window at row `h`, column `w`, for output channel `o`. -/
def tap (X : Image) (Wt : Weights) (o : Fin 192) (dh dw : Fin 3) (h w : ℕ) : EReal :=
  ∑ ci : Fin 192, xpad X ci (h + dh.val) (w + dw.val) * Wt (ix4 o ci dh dw)

/-- The convolution at output channel `o`, row `h`, column `w`. -/
def conv (X : Image) (Wt : Weights) (o : Fin 192) (h w : ℕ) : EReal :=
  tap X Wt o 0 0 h w + tap X Wt o 0 1 h w + tap X Wt o 0 2 h w
    + tap X Wt o 1 0 h w + tap X Wt o 1 1 h w + tap X Wt o 1 2 h w
    + tap X Wt o 2 0 h w + tap X Wt o 2 1 h w + tap X Wt o 2 2 h w

/-- The sum over the image's rows and columns. -/
def total (f : ℕ → ℕ → EReal) : EReal := ∑ h : Fin 384, ∑ w : Fin 384, f h.val w.val

/-- The 24 strips of sixteen rows, each row-major, are the image. -/
theorem strips_total (f : ℕ → ℕ → EReal) :
    ∑ t : Fin 24, ∑ p : Fin 6144, f (16 * t.val + p.val / 384) (p.val % 384) = total f := by
  unfold total
  rw [← Fin.sum_mul_add_fin 24 16 (fun h : Fin 384 => ∑ w : Fin 384, f h.val w.val)]
  refine Finset.sum_congr rfl fun t _ => ?_
  rw [← Fin.sum_divmod_fin (N := 6144) (A := 16) 384 (fun r q => f (t.val * 16 + r.val) q.val)]
  refine Finset.sum_congr rfl fun p _ => ?_
  rw [Nat.mul_comm]

end Cert.Block

end
-- ==== Proof.Strip.lean ====
/-
  What one grid point of the convolution kernel computes from its blocks: the padded strip of 18 rows and 386 columns,
  and the nine products over it, read at an index.
-/
module

public import proofs.«01_k».proof.Proof.Gen.KernelIdeal.Skeleton
public import proofs.«01_k».proof.Proof.Conv

@[expose] public section

set_option maxRecDepth 16384

noncomputable section

namespace Cert.KernelIdeal.Value

open Idealize.ShloMosaic Cert.KernelIdeal Cert.KernelIdeal.Gen Cert.Block

/-- The block above is kept at every point but the first. -/
theorem keep_above (n : Fin 24) (a : EReal) :
    Scalar.select (Scalar.cmpi .sgt (BitVec.ofNat 32 n.val) 0#32) a 0 = if 0 < n.val then a else 0 := by
  have h : ∀ n : Fin 24, Scalar.cmpi .sgt (BitVec.ofNat 32 n.val) 0#32 = if 0 < n.val then 1#1 else 0#1 := by
    decide +kernel
  rw [h]
  split <;> simp [Scalar.select]

/-- The block below is kept at every point but the last. -/
theorem keep_below (n : Fin 24) (a : EReal) :
    Scalar.select (Scalar.cmpi .slt (BitVec.ofNat 32 n.val) 23#32) a 0 = if n.val < 23 then a else 0 := by
  have h : ∀ n : Fin 24, Scalar.cmpi .slt (BitVec.ofNat 32 n.val) 23#32 = if n.val < 23 then 1#1 else 0#1 := by
    decide +kernel
  rw [h]
  split <;> simp [Scalar.select]

/-- The strip at a row, a column and a channel: zero in the two border columns, the last row of the block above in
    row 0 (zero at the first point), the first row of the block below in row 17 (zero at the last point), the block's
    own rows between. -/
theorem strip_apply (i : grid0.Coords) (v0 v3 : Vec Ideal S192x8x384 .f32) (v16 : Vec Ideal S192x16x384 .f32)
    (r : Fin 18) (q : Fin 386) (ci : Fin 192) :
    k0_pay5 (F := Ideal) i v0 v3 v16 (ix3 r q ci)
      = if hq : 1 ≤ q.val ∧ q.val < 385 then
          if hr0 : r.val = 0 then
            if 0 < (i 0).val then v0 (ix3 ci 7 ⟨q.val - 1, by omega⟩) else 0
          else if hr1 : r.val < 17 then v16 (ix3 ci ⟨r.val - 1, by omega⟩ ⟨q.val - 1, by omega⟩)
          else if (i 0).val < 23 then v3 (ix3 ci 0 ⟨q.val - 1, by omega⟩) else 0
        else 0 := by
  pointwise [k0_pay5]
  have hr := r.isLt
  by_cases hq : 1 ≤ q.val ∧ q.val < 385
  · rw [dif_neg (by omega), dif_pos (by omega), dif_pos hq]
    by_cases hr0 : r.val = 0
    · rw [dif_pos (by omega), dif_pos hr0, keep_above (i 0)]
      refine congrArg (fun a => if 0 < (i 0).val then v0 a else 0) ?_
      exact congrArg₂ (ix3 ci) (Fin.ext (by change _ = 7; dsimp only; omega))
        (Fin.ext (by dsimp only; omega))
    · rw [dif_neg (by omega), dif_neg hr0]
      by_cases hr1 : r.val < 17
      · rw [dif_pos (by omega), dif_pos hr1]
        exact congrArg v16 (congrArg₂ (ix3 ci) (Fin.ext (by dsimp only; omega))
          (Fin.ext (by dsimp only; omega)))
      · rw [dif_neg (by omega), dif_neg hr1, keep_below (i 0)]
        refine congrArg (fun a => if (i 0).val < 23 then v3 a else 0) ?_
        exact congrArg₂ (ix3 ci) (Fin.ext (by change _ = 0; dsimp only; omega))
          (Fin.ext (by dsimp only; omega))
  · rw [dif_neg hq]
    split
    · rfl
    · rw [dif_neg (by omega)]

/-- One product of the strip: the window's offset `(dh, dw)` at row `r` and column `q`, summed over the channels. -/
def stripTap (v24 : FVec Ideal S18x386x192 .bf16) (w : Vec Ideal S1x192x192 .bf16) (dh dw : Fin 3)
    (r : Fin 16) (q : Fin 384) (o : Fin 192) : EReal :=
  ∑ ci : Fin 192, v24 (ix3 ⟨r.val + dh.val, by omega⟩ ⟨q.val + dw.val, by omega⟩ ci) * w (ix3 0 ci o)

/-- The nine products over a strip, added in order. -/
theorem products_apply (i : grid0.Coords) (v0 v3 : Vec Ideal S192x8x384 .f32) (v16 : Vec Ideal S192x16x384 .f32)
    (w0 w1 w2 w3 w4 w5 w6 w7 w8 : Vec Ideal S1x192x192 .bf16) (p : Fin 6144) (o : Fin 192) (r : Fin 16) (q : Fin 384)
    (hr : p.val / 384 = r.val) (hq : p.val % 384 = q.val) :
    k0_pay1 (F := Ideal)
        (k0_pay7 (k0_pay5 i v0 v3 v16) (k0_pay6 i v0 v3 v16 w0 w1) w2 w3 w4 w5 w6 w7)
        (k0_pay8 (k0_pay5 i v0 v3 v16)) (k0_pay9 w8) (ix2 p o)
      = stripTap (k0_pay5 i v0 v3 v16) w0 0 0 r q o + stripTap (k0_pay5 i v0 v3 v16) w1 0 1 r q o
        + stripTap (k0_pay5 i v0 v3 v16) w2 0 2 r q o
        + stripTap (k0_pay5 i v0 v3 v16) w3 1 0 r q o + stripTap (k0_pay5 i v0 v3 v16) w4 1 1 r q o
        + stripTap (k0_pay5 i v0 v3 v16) w5 1 2 r q o
        + stripTap (k0_pay5 i v0 v3 v16) w6 2 0 r q o + stripTap (k0_pay5 i v0 v3 v16) w7 2 1 r q o
        + stripTap (k0_pay5 i v0 v3 v16) w8 2 2 r q o := by
  have h6 : k0_pay6 (F := Ideal) i v0 v3 v16 w0 w1 (ix3 r q o)
      = stripTap (k0_pay5 i v0 v3 v16) w0 0 0 r q o + stripTap (k0_pay5 i v0 v3 v16) w1 0 1 r q o := by
    generalize hv : k0_pay5 (F := Ideal) i v0 v3 v16 = v24
    pointwise [k0_pay6]
    rw [hv]
    simp only [stripTap, Fin.val_zero, Fin.val_one, Nat.add_zero, Nat.add_comm 1]
  generalize k0_pay6 (F := Ideal) i v0 v3 v16 w0 w1 = v35 at h6 ⊢
  generalize k0_pay5 (F := Ideal) i v0 v3 v16 = v24 at h6 ⊢
  have hr' : (⟨p.val / 384, by omega⟩ : Fin 16) = r := Fin.ext hr
  have hq' : (⟨p.val % 384, by omega⟩ : Fin 384) = q := Fin.ext hq
  pointwise [k0_pay1, k0_pay7, k0_pay8, k0_pay9]
  simp only [hr', hq', h6, hr, hq, stripTap, Fin.val_zero, Fin.val_one, Fin.val_two, Nat.add_zero,
    Nat.add_comm 1, Nat.add_comm 2]

end Cert.KernelIdeal.Value

end
-- ==== Proof.Region0.lean ====
/-
  The convolution kernel over its grid: each point's block of products is the convolution on its sixteen rows, so the
  array of products holds the convolution at every place, and the array of statistics the sums of the products and of
  their squares over the whole image.
-/
module

public import proofs.«01_k».proof.Proof.Gen.KernelIdeal.Frame
public import proofs.«01_k».proof.Proof.Strip
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat Cfg Window)
open Cert.KernelIdeal Cert.KernelIdeal.Gen Cert.Block

/-- The grid's coordinate at a point is the point's number. -/
theorem coord0 : ∀ t : Fin cfg0.N, (grid0.coords t 0).val = t.val := by decide +kernel

/-- Where each window's block lies at a point: the strip, the eight rows above, the eight rows below, the weights, the
    block of products, the statistics. -/
theorem index0 : ∀ t : Fin cfg0.N, win0_0.index t = ![0, t.val, 0] ∧ win0_1.index t = ![0, 2 * t.val - 1, 0]
    ∧ win0_2.index t = ![0, min (2 * t.val + 2) 47, 0] ∧ win0_3.index t = ![0, 0, 0]
    ∧ win0_4.index t = ![t.val, 0] ∧ win0_5.index t = ![0, 0] := by decide +kernel

theorem lt24 (t : Fin cfg0.N) : t.val < 24 := t.isLt

variable (V : (c : Dev nD) → (b : Ref sig .tc) → Buf (Elt Ideal) ((c : Thread nD τ).loc b)) (c : Dev nD)

/-- The strip of 18 padded rows that a point assembles. -/
def stripAt (t : Fin cfg0.N) : FVec Ideal S18x386x192 .bf16 :=
  k0_pay5 (F := Ideal) (grid0.coords t) (iblk0 V c 1 t) (iblk0 V c 2 t) (iblk0 V c 0 t)

/-- The image as the kernel's first operand holds it. -/
def HoldsImage (X : Image) : Prop :=
  ∀ (ci : Fin 192) (h w : Fin 384), (V c main_v0 : Vec Ideal S192x384x384 .f32) (ix3 ci h w) = X (ix4 0 ci h w)

/-- The weights as the kernel's second operand holds them: the window's place on the leading axis. -/
def HoldsWeights (Wt : Weights) : Prop :=
  ∀ (dh dw : Fin 3) (ci o : Fin 192),
    (V c main_v3 : Vec Ideal S9x192x192 .bf16) (ix3 ⟨3 * dh.val + dw.val, by omega⟩ ci o) = Wt (ix4 o ci dh dw)

theorem blockMain (t : Fin cfg0.N) (ci : Fin 192) (r : Fin 16) (q : Fin 384) :
    (iblk0 V c 0 t : Vec Ideal S192x16x384 .f32) (ix3 ci r q)
      = (V c main_v0 : Vec Ideal S192x384x384 .f32) (ix3 ci ⟨16 * t.val + r.val, by have := lt24 t; omega⟩ q) := by
  have e := (index0 t).1
  blk_ext [iblk0, e]

theorem blockAbove (t : Fin cfg0.N) (ht : 0 < t.val) (ci : Fin 192) (q : Fin 384) :
    (iblk0 V c 1 t : Vec Ideal S192x8x384 .f32) (ix3 ci 7 q)
      = (V c main_v0 : Vec Ideal S192x384x384 .f32) (ix3 ci ⟨16 * t.val - 1, by have := lt24 t; omega⟩ q) := by
  have e := (index0 t).2.1
  blk_ext [iblk0, e]

theorem blockBelow (t : Fin cfg0.N) (ht : t.val < 23) (ci : Fin 192) (q : Fin 384) :
    (iblk0 V c 2 t : Vec Ideal S192x8x384 .f32) (ix3 ci 0 q)
      = (V c main_v0 : Vec Ideal S192x384x384 .f32) (ix3 ci ⟨16 * t.val + 16, by omega⟩ q) := by
  have e := (index0 t).2.2.1
  blk_ext [iblk0, e]

theorem blockWeights (t : Fin cfg0.N) (k : Fin 9) (ci o : Fin 192) :
    (iblk0 V c 3 t : Vec Ideal S9x192x192 .bf16) (ix3 k ci o)
      = (V c main_v3 : Vec Ideal S9x192x192 .bf16) (ix3 k ci o) := by
  have e := (index0 t).2.2.2.1
  blk_ext [iblk0, e]

/-- A point's strip is the padded image from its first row on. -/
theorem strip_eq {X : Image} (hX : HoldsImage V c X) (t : Fin cfg0.N) (r : Fin 18) (q : Fin 386) (ci : Fin 192) :
    stripAt V c t (ix3 r q ci) = xpad X ci (16 * t.val + r.val) q.val := by
  have hN := lt24 t
  have hr := r.isLt
  unfold stripAt xpad
  rw [strip_apply]
  by_cases hq : 1 ≤ q.val ∧ q.val < 385
  · rw [dif_pos hq]
    by_cases h0 : r.val = 0
    · rw [dif_pos h0, coord0]
      by_cases ht : 0 < t.val
      · rw [if_pos ht, dif_pos ⟨by omega, hq⟩, blockAbove V c t ht, hX]
        blk_ext
      · rw [if_neg ht, dif_neg (by omega)]
    · rw [dif_neg h0]
      by_cases h1 : r.val < 17
      · rw [dif_pos h1, dif_pos ⟨by omega, hq⟩, blockMain, hX]
        blk_ext
      · rw [dif_neg h1, coord0]
        by_cases ht : t.val < 23
        · rw [if_pos ht, dif_pos ⟨by omega, hq⟩, blockBelow V c t ht, hX]
          blk_ext
        · rw [if_neg ht, dif_neg (by omega)]
  · rw [dif_neg hq, dif_neg (by omega)]

/-- One product over a point's strip is one tap of the convolution. -/
theorem stripTap_eq {X : Image} {Wt : Weights} (hX : HoldsImage V c X) (hW : HoldsWeights V c Wt) (t : Fin cfg0.N)
    (w : Vec Ideal S1x192x192 .bf16) (dh dw : Fin 3)
    (hw : ∀ ci o : Fin 192, w (ix3 0 ci o)
      = (iblk0 V c 3 t : Vec Ideal S9x192x192 .bf16) (ix3 ⟨3 * dh.val + dw.val, by omega⟩ ci o))
    (r : Fin 16) (q : Fin 384) (o : Fin 192) :
    stripTap (stripAt V c t) w dh dw r q o = tap X Wt o dh dw (16 * t.val + r.val) q.val := by
  unfold stripTap tap
  refine Finset.sum_congr rfl fun ci _ => ?_
  rw [strip_eq V c hX, hw, blockWeights, hW, Nat.add_assoc]

/-- The weights of one place of the window, as a point loads them. -/
abbrev wAt (t : Fin cfg0.N) (k : ℕ) (hk : ∀ a : Fin 3, (![k, 0, 0] : Fin 3 → ℕ) a + (![1, 192, 192] : Fin 3 → ℕ) a ≤ S9x192x192.size a) :
    Vec Ideal S1x192x192 .bf16 :=
  View.ld (iblk0 V c 3 t) (Rect.unit (s := S9x192x192) ![k, 0, 0] ![1, 192, 192] hk)

theorem wAt_apply (t : Fin cfg0.N) (k : Fin 9)
    (hk : ∀ a : Fin 3, (![k.val, 0, 0] : Fin 3 → ℕ) a + (![1, 192, 192] : Fin 3 → ℕ) a ≤ S9x192x192.size a)
    (ci o : Fin 192) :
    wAt V c t k.val hk (ix3 0 ci o) = (iblk0 V c 3 t : Vec Ideal S9x192x192 .bf16) (ix3 k ci o) := by
  unfold wAt
  pointwise

/-- The products that a point computes from its blocks. -/
def productsAt (t : Fin cfg0.N) : FVec Ideal S6144x192 .f32 :=
  k0_pay1 (F := Ideal)
    (k0_pay7 (stripAt V c t)
      (k0_pay6 (grid0.coords t) (iblk0 V c 1 t) (iblk0 V c 2 t) (iblk0 V c 0 t)
        (wAt V c t 0 inb_S9x192x192_S1x192x192_0_0_0) (wAt V c t 1 inb_S9x192x192_S1x192x192_1_0_0))
      (wAt V c t 2 inb_S9x192x192_S1x192x192_2_0_0) (wAt V c t 3 inb_S9x192x192_S1x192x192_3_0_0)
      (wAt V c t 4 inb_S9x192x192_S1x192x192_4_0_0) (wAt V c t 5 inb_S9x192x192_S1x192x192_5_0_0)
      (wAt V c t 6 inb_S9x192x192_S1x192x192_6_0_0) (wAt V c t 7 inb_S9x192x192_S1x192x192_7_0_0))
    (k0_pay8 (stripAt V c t)) (k0_pay9 (wAt V c t 8 inb_S9x192x192_S1x192x192_8_0_0))

/-- A point's products are the convolution on its sixteen rows. -/
theorem productsAt_eq {X : Image} {Wt : Weights} (hX : HoldsImage V c X) (hW : HoldsWeights V c Wt) (t : Fin cfg0.N)
    (p : Fin 6144) (o : Fin 192) :
    productsAt V c t (ix2 p o) = conv X Wt o (16 * t.val + p.val / 384) (p.val % 384) := by
  have h := products_apply (grid0.coords t) (iblk0 V c 1 t) (iblk0 V c 2 t) (iblk0 V c 0 t)
    (wAt V c t 0 inb_S9x192x192_S1x192x192_0_0_0) (wAt V c t 1 inb_S9x192x192_S1x192x192_1_0_0)
    (wAt V c t 2 inb_S9x192x192_S1x192x192_2_0_0) (wAt V c t 3 inb_S9x192x192_S1x192x192_3_0_0)
    (wAt V c t 4 inb_S9x192x192_S1x192x192_4_0_0) (wAt V c t 5 inb_S9x192x192_S1x192x192_5_0_0)
    (wAt V c t 6 inb_S9x192x192_S1x192x192_6_0_0) (wAt V c t 7 inb_S9x192x192_S1x192x192_7_0_0)
    (wAt V c t 8 inb_S9x192x192_S1x192x192_8_0_0) p o ⟨p.val / 384, by omega⟩ ⟨p.val % 384, by omega⟩ rfl rfl
  refine h.trans ?_
  change stripTap (stripAt V c t) _ _ _ _ _ _ + stripTap (stripAt V c t) _ _ _ _ _ _
    + stripTap (stripAt V c t) _ _ _ _ _ _ + stripTap (stripAt V c t) _ _ _ _ _ _
    + stripTap (stripAt V c t) _ _ _ _ _ _ + stripTap (stripAt V c t) _ _ _ _ _ _
    + stripTap (stripAt V c t) _ _ _ _ _ _ + stripTap (stripAt V c t) _ _ _ _ _ _
    + stripTap (stripAt V c t) _ _ _ _ _ _ = _
  have h0 := stripTap_eq V c hX hW t (wAt V c t 0 inb_S9x192x192_S1x192x192_0_0_0) 0 0 (wAt_apply V c t 0 _)
  have h1 := stripTap_eq V c hX hW t (wAt V c t 1 inb_S9x192x192_S1x192x192_1_0_0) 0 1 (wAt_apply V c t 1 _)
  have h2 := stripTap_eq V c hX hW t (wAt V c t 2 inb_S9x192x192_S1x192x192_2_0_0) 0 2 (wAt_apply V c t 2 _)
  have h3 := stripTap_eq V c hX hW t (wAt V c t 3 inb_S9x192x192_S1x192x192_3_0_0) 1 0 (wAt_apply V c t 3 _)
  have h4 := stripTap_eq V c hX hW t (wAt V c t 4 inb_S9x192x192_S1x192x192_4_0_0) 1 1 (wAt_apply V c t 4 _)
  have h5 := stripTap_eq V c hX hW t (wAt V c t 5 inb_S9x192x192_S1x192x192_5_0_0) 1 2 (wAt_apply V c t 5 _)
  have h6 := stripTap_eq V c hX hW t (wAt V c t 6 inb_S9x192x192_S1x192x192_6_0_0) 2 0 (wAt_apply V c t 6 _)
  have h7 := stripTap_eq V c hX hW t (wAt V c t 7 inb_S9x192x192_S1x192x192_7_0_0) 2 1 (wAt_apply V c t 7 _)
  have h8 := stripTap_eq V c hX hW t (wAt V c t 8 inb_S9x192x192_S1x192x192_8_0_0) 2 2 (wAt_apply V c t 8 _)
  rw [h0, h1, h2, h3, h4, h5, h6, h7, h8]
  rfl

/-- Whichever case a point takes, it stores its products. -/
theorem stored_products (t : Fin cfg0.N) : (outsAt0 V c t.val t.isLt).1 = productsAt V c t := by
  by_cases h : t.val % 24 = 0
  · rw [outsAt0_A V c t h]
    frame_out
    rfl
  · rw [outsAt0_B V c t h]
    frame_out
    rfl

/-- The statistics that a point adds: the sums over its rows of the products (row 0) and of their squares (row 1). -/
def statTerm (t : Fin cfg0.N) : Vec Ideal S2x192 .f32 := fun j =>
  if (j 0).val = 0 then ∑ p : Fin 6144, productsAt V c t (ix2 p (j 1))
  else ∑ p : Fin 6144, productsAt V c t (ix2 p (j 1)) * productsAt V c t (ix2 p (j 1))

theorem stats_apply (a : FVec Ideal S16x384x192 .f32) (b : FVec Ideal S16x384x192 .bf16) (d : FVec Ideal S192x192 .bf16)
    (s : Vec Ideal S2x192 .f32) (j : S2x192.Idx) :
    k0_pay4 (F := Ideal) a b d s j = s j + (if (j 0).val = 0 then ∑ p : Fin 6144, k0_pay1 a b d (ix2 p (j 1))
      else ∑ p : Fin 6144, k0_pay1 a b d (ix2 p (j 1)) * k0_pay1 a b d (ix2 p (j 1))) := by
  pointwise [k0_pay4]
  by_cases h : (j 0).val = 0
  · rw [dif_pos (by omega), if_pos h]
  · rw [dif_neg (by omega), if_neg h]

theorem zeros_apply (j : S2x192.Idx) : k0_pay3 (F := Ideal) j = 0 := by
  pointwise [k0_pay3]

/-- The first point sets the statistics to its own. -/
theorem stats_first (t : Fin cfg0.N) (h : t.val % 24 = 0) (j : S2x192.Idx) :
    (outsAt0 V c t.val t.isLt).2 j = (0 : EReal) + statTerm V c t j := by
  rw [outsAt0_A V c t h]
  frame_out
  refine (stats_apply _ _ _ _ j).trans ?_
  rw [zeros_apply]
  rfl

/-- Every later point adds its own. -/
theorem stats_later (t : Fin cfg0.N) (h : ¬t.val % 24 = 0) (j : S2x192.Idx) :
    (outsAt0 V c t.val t.isLt).2 j
      = (outsAt0 V c (t.val - 1) (Nat.lt_of_le_of_lt (Nat.sub_le _ _) t.isLt)).2 j + statTerm V c t j := by
  rw [outsAt0_B V c t h]
  frame_out
  refine (stats_apply _ _ _ _ j).trans ?_
  rfl

/-- The grid's last point. -/
def lastPoint : Fin cfg0.N := ⟨23, by decide⟩

/-- The array of products after the run: the convolution, row-major over rows and columns. -/
theorem products_array {X : Image} {Wt : Weights} (hX : HoldsImage V c X) (hW : HoldsWeights V c Wt) :
    (dat0 V c).arrAt 4 cfg0.N
      = (fun i : S147456x192.Idx => conv X Wt (i 1) ((i 0).val / 384) ((i 0).val % 384) : FVec Ideal S147456x192 .bf16) := by
  refine (dat0 V c).arrAt_eq_of_covers 4 _ (by decide +kernel) fun t hf y => ?_
  have e := (index0 t).2.2.2.2.1
  blk_simp [e]
  rw [after0_4, stored_products]
  have h1 : (win0_4.blk t).view.emb y 1 = (y 1 : Fin 192) := by
    apply Fin.ext
    blk_simp [e]
  have hy : y = (ix2 (y 0) (y 1) : S6144x192.Idx) := eq_ix2 (n0 := 6144) (n1 := 192) y
  have h2 := productsAt_eq V c hX hW t (y 0) (y 1)
  rw [← hy] at h2
  refine h2.trans ?_
  rw [h1]
  have hb : (y 0).val < 6144 := (y 0).isLt
  congr 1 <;> omega

/-- The statistics of all points together: over the whole image. -/
theorem stats_sum {X : Image} {Wt : Weights} (hX : HoldsImage V c X) (hW : HoldsWeights V c Wt) (j : S2x192.Idx) :
    ∑ t : Fin cfg0.N, (statTerm V c t j : EReal) = if (j 0).val = 0 then total (conv X Wt (j 1))
      else total (fun h w => conv X Wt (j 1) h w * conv X Wt (j 1) h w) := by
  by_cases h : (j 0).val = 0
  · rw [if_pos h, ← strips_total]
    refine Finset.sum_congr rfl fun t _ => ?_
    unfold statTerm
    rw [if_pos h]
    exact Finset.sum_congr rfl fun p _ => productsAt_eq V c hX hW t p (j 1)
  · rw [if_neg h, ← strips_total]
    refine Finset.sum_congr rfl fun t _ => ?_
    unfold statTerm
    rw [if_neg h]
    exact Finset.sum_congr rfl fun p _ => by rw [productsAt_eq V c hX hW t p (j 1)]

/-- What the last point leaves of the statistics. -/
theorem stats_last {X : Image} {Wt : Weights} (hX : HoldsImage V c X) (hW : HoldsWeights V c Wt) (j : S2x192.Idx) :
    (outsAt0 V c lastPoint.val lastPoint.isLt).2 j = if (j 0).val = 0 then total (conv X Wt (j 1))
      else total (fun h w => conv X Wt (j 1) h w * conv X Wt (j 1) h w) := by
  rw [Pipeline.eq_sum_fin_of_reset_step_apply_last (M := EReal) (ι := S2x192.Idx) (fun n h => (outsAt0 V c n h).2) 24
    (fun _ => (0 : EReal)) (statTerm V c) (stats_first V c) (stats_later V c) (by decide) lastPoint rfl j, zero_add]
  exact stats_sum V c hX hW j

/-- The array of statistics after the run: the sums of the products and of their squares over the image. -/
theorem stats_array {X : Image} {Wt : Weights} (hX : HoldsImage V c X) (hW : HoldsWeights V c Wt) :
    (dat0 V c).arrAt 5 cfg0.N
      = (fun j : S2x192.Idx => if (j 0).val = 0 then total (conv X Wt (j 1))
          else total (fun h w => conv X Wt (j 1) h w * conv X Wt (j 1) h w) : FVec Ideal S2x192 .f32) := by
  refine (dat0 V c).arrAt_eq_of_after_last 5 lastPoint (by decide +kernel) _ fun j => ?_
  blk_simp
  rw [after0_5]
  exact stats_last V c hX hW j

end Cert.KernelIdeal.Value

end
-- ==== Proof.Region1.lean ====
/-
  The normalisation kernel over its grid: every place of its result is the product there, scaled and shifted by the
  numbers that the statistics give, and cut off below at zero.
-/
module

public import proofs.«01_k».proof.Proof.Gen.KernelIdeal.Frame
public import proofs.«01_k».proof.Proof.Conv
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat Cfg Window)
open Cert.KernelIdeal Cert.KernelIdeal.Gen Cert.Block

/-- One place of the normalisation, from the two sums, the scale `g`, the shift `b` and the product `q`. -/
def normalise (s s2 g b q : EReal) : EReal :=
  max (q * (g * Ideal.rsqrt (s2 * ((1 / 147456 : ℝ) : EReal) - s * ((1 / 147456 : ℝ) : EReal) * (s * ((1 / 147456 : ℝ) : EReal))
        + Ideal.ofBits .f32 0x3A83126F#32))
      + (b - s * ((1 / 147456 : ℝ) : EReal) * (g * Ideal.rsqrt (s2 * ((1 / 147456 : ℝ) : EReal)
          - s * ((1 / 147456 : ℝ) : EReal) * (s * ((1 / 147456 : ℝ) : EReal)) + Ideal.ofBits .f32 0x3A83126F#32)))) 0

/-- The block that a point stores, at an index. -/
theorem normalise_apply (s s2 g b : Vec Ideal S1x192 .f32) (q : Vec Ideal S6144x192 .bf16) (o : Fin 192) (r : Fin 16)
    (w : Fin 384) :
    k1_pay1 (F := Ideal) s s2 g b q (ix3 o r w)
      = normalise (s (ix2 0 o)) (s2 (ix2 0 o)) (g (ix2 0 o)) (b (ix2 0 o)) (q (ix2 ⟨r.val * 384 + w.val, by omega⟩ o)) := by
  pointwise [k1_pay1]
  simp only [IdealRules.named_const.ideal_named_scalar κ "inv_n" _ _ rfl]
  rfl

theorem index1 : ∀ t : Fin cfg1.N, win1_0.index t = ![t.val, 0] ∧ win1_1.index t = ![0, 0] ∧ win1_2.index t = ![0, 0]
    ∧ win1_3.index t = ![0, 0] ∧ win1_4.index t = ![0, t.val, 0] := by decide +kernel

variable (V : (c : Dev nD) → (b : Ref sig .tc) → Buf (Elt Ideal) ((c : Thread nD τ).loc b)) (c : Dev nD)

/-- The array of results after the run. -/
theorem result_array :
    (dat1 V c).arrAt 4 cfg1.N
      = (fun i : S192x384x384.Idx => normalise
          ((V c main_v4_1 : Vec Ideal S2x192 .f32) (ix2 0 (i 0))) ((V c main_v4_1 : Vec Ideal S2x192 .f32) (ix2 1 (i 0)))
          ((V c main_v5 : Vec Ideal S1x192 .f32) (ix2 0 (i 0))) ((V c main_v6 : Vec Ideal S1x192 .f32) (ix2 0 (i 0)))
          ((V c main_v4_0 : Vec Ideal S147456x192 .bf16)
            (ix2 ⟨(i 1).val * 384 + (i 2).val, by have h1 : (i 1).val < 384 := (i 1).isLt; have h2 : (i 2).val < 384 := (i 2).isLt; omega⟩ (i 0)))
          : FVec Ideal S192x384x384 .f32) := by
  refine (dat1 V c).arrAt_eq_of_covers 4 _ (by decide +kernel) fun t hf y => ?_
  obtain ⟨e0, e1, e2, e3, e4⟩ := index1 t
  blk_simp
  rw [after1_4]
  frame_out
  have hy : y = (ix3 (y 0) (y 1) (y 2) : S192x16x384.Idx) := eq_ix3 (n0 := 192) (n1 := 16) (n2 := 384) y
  have h2 := normalise_apply (View.ld (iblk1 V c 1 t) r1_0) (View.ld (iblk1 V c 1 t) r1_1) (iblk1 V c 2 t) (iblk1 V c 3 t)
    (iblk1 V c 0 t) (y 0) (y 1) (y 2)
  rw [← hy] at h2
  refine h2.trans ?_
  congr 1
  · pointwise
    blk_ext [iblk1, e1, e4]
  · pointwise
    blk_ext [iblk1, e1, e4]
  · blk_ext [iblk1, e2, e4]
  · blk_ext [iblk1, e3, e4]
  · blk_ext [iblk1, e0, e4]

end Cert.KernelIdeal.Value

end
-- ==== Proof.KernelValue.lean ====
/-
  The kernel's result as a function of its arguments: at channel `o`, row `h`, column `w` the convolution there,
  normalised by the sums over the whole image.
-/
module

public import proofs.«01_k».proof.Proof.Region0
public import proofs.«01_k».proof.Proof.Region1
public import Idealize.ShloMosaic.Lib.StableHlo.RunRead

@[expose] public section

set_option maxRecDepth 16384

noncomputable section

namespace Cert.KernelIdeal.Value

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Block

variable (m : (ℓ : Loc nD τ sig) → Buf (Elt Ideal) ℓ) (ρ : Dev nD → PrngReg) (c : Dev nD)

/-- The image of a launch. -/
abbrev image : Image := m ((c.tc : Thread nD τ).loc main_arg0)
/-- The weights of a launch. -/
abbrev weights : Weights := m ((c.tc : Thread nD τ).loc main_arg3)
/-- The scale of a launch. -/
abbrev scale : Channel := m ((c.tc : Thread nD τ).loc main_arg5)
/-- The shift of a launch. -/
abbrev shift : Channel := m ((c.tc : Thread nD τ).loc main_arg6)

theorem cast_image (x : FVec Ideal S1x192x384x384 .f32) (ci : Fin 192) (h w : Fin 384) :
    shapeCast S192x384x384 x shapeCasts_S1x192x384x384_S192x384x384 (ix3 ci h w) = x (ix4 0 ci h w) := by
  pointwise
  blk_ext

theorem cast_weights (x : FVec Ideal S192x192x3x3 .f32) (dh dw : Fin 3) (ci o : Fin 192) :
    (truncf .bf16 (shapeCast S9x192x192 (transpose S3x3x192x192 [2, 3, 1, 0] x
        transposes_S192x192x3x3_S3x3x192x192_2_3_1_0) shapeCasts_S3x3x192x192_S9x192x192) bitsLt_bf16_f32
          : FVec Ideal S9x192x192 .bf16) (ix3 ⟨3 * dh.val + dw.val, by omega⟩ ci o) = x (ix4 o ci dh dw) := by
  pointwise
  blk_ext

theorem cast_channel (x : FVec Ideal S192 .f32) (o : Fin 192) :
    shapeCast S1x192 x shapeCasts_S192_S1x192 (ix2 0 o) = x (ix1 o) := by
  pointwise

theorem cast_result (x : FVec Ideal S192x384x384 .f32) (o : Fin 192) (h w : Fin 384) :
    broadcastInDim S1x192x384x384 ![1, 2, 3] bcast_S192x384x384_S1x192x384x384_1_2_3 x (ix4 0 o h w) = x (ix3 o h w) := by
  pointwise

theorem holds_image : HoldsImage (V1 m ρ) c (image m c) := fun ci h w => by
  have e : W1 m ρ c (Proc.devRef .tc main_v0)
      = shapeCast S192x384x384 (m ((c.tc : Thread nD τ).loc main_arg0)) shapeCasts_S1x192x384x384_S192x384x384 := by
    after_reads_simp
    rfl
  exact (congrFun e (ix3 ci h w)).trans (cast_image _ ci h w)

theorem holds_weights : HoldsWeights (V1 m ρ) c (weights m c) := fun dh dw ci o => by
  have e : W1 m ρ c (Proc.devRef .tc main_v3)
      = (truncf .bf16 (shapeCast S9x192x192 (transpose S3x3x192x192 [2, 3, 1, 0]
          (m ((c.tc : Thread nD τ).loc main_arg3) : FVec Ideal S192x192x3x3 .f32)
          transposes_S192x192x3x3_S3x3x192x192_2_3_1_0) shapeCasts_S3x3x192x192_S9x192x192) bitsLt_bf16_f32
            : FVec Ideal S9x192x192 .bf16) := by
    after_reads_simp
    rfl
  exact (congrFun e _).trans (cast_weights _ dh dw ci o)

/-- The products at the second kernel's entry. -/
theorem entry_products : W3 m ρ c (Proc.devRef .tc main_v4_0) = (dat0 (V1 m ρ) c).arrAt 4 cfg0.N :=
  (W3_of m ρ c main_v4_0 (by decide)).trans (W2_arr m ρ c 4)

/-- The statistics at the second kernel's entry. -/
theorem entry_stats : W3 m ρ c (Proc.devRef .tc main_v4_1) = (dat0 (V1 m ρ) c).arrAt 5 cfg0.N :=
  (W3_of m ρ c main_v4_1 (by decide)).trans (W2_arr m ρ c 5)

theorem entry_scale (o : Fin 192) :
    (W3 m ρ c (Proc.devRef .tc main_v5) : Vec Ideal S1x192 .f32) (ix2 0 o) = scale m c (ix1 o) := by
  have h : W3 m ρ c (Proc.devRef .tc main_v5)
      = shapeCast S1x192 (W2 m ρ c (Proc.devRef .tc main_arg5)) shapeCasts_S192_S1x192 := by
    after_reads_simp
    rfl
  exact (congrFun h _).trans ((cast_channel _ o).trans (congrFun (W2_args m ρ c main_arg5 (by decide)) (ix1 o)))

theorem entry_shift (o : Fin 192) :
    (W3 m ρ c (Proc.devRef .tc main_v6) : Vec Ideal S1x192 .f32) (ix2 0 o) = shift m c (ix1 o) := by
  have h : W3 m ρ c (Proc.devRef .tc main_v6)
      = shapeCast S1x192 (W2 m ρ c (Proc.devRef .tc main_arg6)) shapeCasts_S192_S1x192 := by
    after_reads_simp
    rfl
  exact (congrFun h _).trans ((cast_channel _ o).trans (congrFun (W2_args m ρ c main_arg6 (by decide)) (ix1 o)))

/-- The kernel's result at an index. -/
theorem result_eq (o : Fin 192) (h w : Fin 384) :
    (W5 m ρ c (Proc.devRef .tc main_v8) : Vec Ideal S1x192x384x384 .f32) (ix4 0 o h w)
      = normalise (total (conv (image m c) (weights m c) o))
          (total fun h w => conv (image m c) (weights m c) o h w * conv (image m c) (weights m c) o h w)
          (scale m c (ix1 o)) (shift m c (ix1 o)) (conv (image m c) (weights m c) o h.val w.val) := by
  have h8 : W5 m ρ c (Proc.devRef .tc main_v8)
      = broadcastInDim S1x192x384x384 ![1, 2, 3] bcast_S192x384x384_S1x192x384x384_1_2_3
          (W4 m ρ c (Proc.devRef .tc main_v7) : Vec Ideal S192x384x384 .f32) := by
    after_reads_simp
  have h7 : W4 m ρ c (Proc.devRef .tc main_v7) = (dat1 (V3 m ρ) c).arrAt 4 cfg1.N := W4_arr m ρ c 4
  refine (congrFun h8 _).trans ((cast_result _ o h w).trans ((congrFun (h7.trans (result_array (V3 m ρ) c)) _).trans ?_))
  have hp : (W3 m ρ c (Proc.devRef .tc main_v4_0) : Vec Ideal S147456x192 .bf16) (ix2 ⟨h.val * 384 + w.val, by omega⟩ o)
      = conv (image m c) (weights m c) o h.val w.val := by
    refine (congrFun ((entry_products m ρ c).trans
      (products_array (V1 m ρ) c (holds_image m ρ c) (holds_weights m ρ c))) _).trans ?_
    change conv _ _ o ((h.val * 384 + w.val) / 384) ((h.val * 384 + w.val) % 384) = _
    congr 1 <;> omega
  have hs : ∀ k : Fin 2, (W3 m ρ c (Proc.devRef .tc main_v4_1) : Vec Ideal S2x192 .f32) (ix2 k o)
      = if k.val = 0 then total (conv (image m c) (weights m c) o)
        else total fun h w => conv (image m c) (weights m c) o h w * conv (image m c) (weights m c) o h w := fun k =>
    congrFun ((entry_stats m ρ c).trans (stats_array (V1 m ρ) c (holds_image m ρ c) (holds_weights m ρ c))) _
  change normalise ((W3 m ρ c (Proc.devRef .tc main_v4_1) : Vec Ideal S2x192 .f32) (ix2 0 o))
    ((W3 m ρ c (Proc.devRef .tc main_v4_1) : Vec Ideal S2x192 .f32) (ix2 1 o))
    ((W3 m ρ c (Proc.devRef .tc main_v5) : Vec Ideal S1x192 .f32) (ix2 0 o))
    ((W3 m ρ c (Proc.devRef .tc main_v6) : Vec Ideal S1x192 .f32) (ix2 0 o))
    ((W3 m ρ c (Proc.devRef .tc main_v4_0) : Vec Ideal S147456x192 .bf16) (ix2 ⟨h.val * 384 + w.val, by omega⟩ o)) = _
  rw [hs 0, hs 1, hp, entry_scale, entry_shift]
  rfl

end Cert.KernelIdeal.Value

end
-- ==== Proof.RefEntry.lean ====
/-
  What the reference's operations before its loop leave: the padded and gathered blocks, their convolution with the bias,
  and the normalised blocks, each as the function of the arguments that its operations spell.
-/
module

public import proofs.«01_k».proof.Proof.Gen.ReferenceIdeal.Run
public import proofs.«01_k».proof.Proof.Gen.ReferenceIdeal.Step

@[expose] public section

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (c : Dev nD)

set_option maxRecDepth 65536 in
set_option maxHeartbeats 2000000 in
/-- The gather's start indices. -/
theorem entry_index : entryContents (F := F) preI m c (Proc.devRef .tc main_v33)
    = Step.A_main_v33 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  simp only [entryContents, afterL_cons, afterL_nil]
  after_reads_simp
  rfl

set_option maxRecDepth 65536 in
set_option maxHeartbeats 2000000 in
/-- The gathered blocks with their halo. -/
theorem entry_blocks : entryContents (F := F) preI m c (Proc.devRef .tc main_v35)
    = Step.A_main_v35 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have hentry_index := entry_index m c
  revert hentry_index
  simp only [entryContents, afterL_cons, afterL_nil]
  after_reads_simp
  intro hentry_index
  rw [hentry_index]
  rfl

set_option maxRecDepth 65536 in
set_option maxHeartbeats 2000000 in
/-- The blocks' convolution with the bias. -/
theorem entry_conv : entryContents (F := F) preI m c (Proc.devRef .tc main_v93)
    = Step.A_main_v93 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have hentry_blocks := entry_blocks m c
  revert hentry_blocks
  simp only [entryContents, afterL_cons, afterL_nil]
  after_reads_simp
  intro hentry_blocks
  rw [hentry_blocks]
  rfl

set_option maxRecDepth 65536 in
set_option maxHeartbeats 2000000 in
/-- The variance of the blocks. -/
theorem entry_var : entryContents (F := F) preI m c (Proc.devRef .tc main_v97)
    = Step.A_main_v97 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have hentry_conv := entry_conv m c
  revert hentry_conv
  simp only [entryContents, afterL_cons, afterL_nil]
  after_reads_simp
  intro hentry_conv
  rw [hentry_conv]
  rfl

set_option maxRecDepth 65536 in
set_option maxHeartbeats 2000000 in
/-- The normalised blocks, which the loop carries. -/
theorem entry_norm : entryContents (F := F) preI m c (Proc.devRef .tc main_v115_1)
    = Step.A_main_v113 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  have hentry_var := entry_var m c
  have hentry_conv := entry_conv m c
  revert hentry_var hentry_conv
  simp only [entryContents, afterL_cons, afterL_nil]
  after_reads_simp
  intro hentry_var hentry_conv
  rw [hentry_var, hentry_conv]
  rfl

end Cert.ReferenceIdeal.Loop

end
-- ==== Proof.RefBlocks.lean ====
/-
  The reference's blocks: where the gather of a block starts, and what its entry is, an entry of the image with a border
  of zeros.
-/
module

public import proofs.«01_k».proof.Proof.Gen.ReferenceIdeal.Step
public import proofs.«01_k».proof.Proof.Conv
public import Idealize.ShloMosaic.Lib.Pointwise
public import Idealize.ShloMosaic.Lib.ValueIdx

@[expose] public section

set_option maxRecDepth 16384

noncomputable section

namespace Cert.ReferenceIdeal.Blocks

open Idealize.ShloMosaic Cert.ReferenceIdeal Cert.ReferenceIdeal.Gen Cert.ReferenceIdeal.Step Cert.Block

/-- A word below eight times 48 is a number below 385, and not a negative one. -/
theorem times48 (v : BitVec 32) (hv : v.toNat < 8) :
    (v * 48#32).toNat = v.toNat * 48 ∧ (v * 48#32).slt 0#32 = false ∧ (v * 48#32).toInt.toNat = v.toNat * 48 := by
  have h : (v * 48#32).toNat = v.toNat * 48 := by
    rw [BitVec.toNat_mul]; simp only [BitVec.toNat_ofNat]; omega
  have hi : (v * 48#32).toInt = (v.toNat * 48 : ℕ) := by
    rw [BitVec.toInt_eq_toNat_cond, h]; split <;> omega
  refine ⟨h, ?_, ?_⟩
  · rw [BitVec.slt, hi]; simp
  · rw [hi]; rfl

variable (X : FVec Ideal S1x192x384x384 .f32) (ix : IVec S64x3 32) (Wt : FVec Ideal S192x192x3x3 .f32)
  (b g be : FVec Ideal S192 .f32)

/-- A block's row index, times 48, is where its gather starts down the padded image. -/
theorem start_row (n : Fin 64) (h : (ix (ix2 n 1)).toNat < 8) :
    (A_main_v33 (F := Ideal) X ix Wt b g be (ix2 n 2)).toInt.toNat = (ix (ix2 n 1)).toNat * 48 := by
  pointwise [A_main_v33, A_main_v31, A_main_v23, A_main_v20, A_main_v22, A_main_v6, A_main_v4, A_main_v3, K_main_v5, K_main_v19, K_main_v21, K_main_c_0]
  obtain ⟨-, hs, ht⟩ := times48 _ h
  have hz : IntOp.cmpi CmpIPredicate.slt (IntOp.muli (ix (ix2 n 1)) 48#32) (K_main_c_9 (F := Ideal) ix0) = 0#1 := by
    change BitVec.ofBool ((ix (ix2 n 1) * 48#32).slt 0#32) = 0#1
    rw [hs]; rfl
  rw [hz]
  exact ht

/-- A block's column index, times 48, is where its gather starts across the padded image. -/
theorem start_column (n : Fin 64) (h : (ix (ix2 n 2)).toNat < 8) :
    (A_main_v33 (F := Ideal) X ix Wt b g be (ix2 n 3)).toInt.toNat = (ix (ix2 n 2)).toNat * 48 := by
  pointwise [A_main_v33, A_main_v32, A_main_v28, A_main_v25, A_main_v27, A_main_v10, A_main_v8, A_main_v7, K_main_v9, K_main_v24, K_main_v26, K_main_c_1]
  obtain ⟨-, hs, ht⟩ := times48 _ h
  have hz : IntOp.cmpi CmpIPredicate.slt (IntOp.muli (ix (ix2 n 2)) 48#32) (K_main_c_11 (F := Ideal) ix0) = 0#1 := by
    change BitVec.ofBool ((ix (ix2 n 2) * 48#32).slt 0#32) = 0#1
    rw [hs]; rfl
  rw [hz]
  exact ht

/-- An entry of the gather: the image's one plane and every channel from their first, the rows and columns from the
    starts that the index vector names. -/
theorem gather_apply (x : FVec Ideal S1x192x386x386 .f32) (idx : IVec S64x4 32) (n : Fin 64) (ci : Fin 192) (r q : Fin 50)
    (i j : ℕ) (hi : i < 8) (hj : j < 8) (h2 : (idx (ix2 n 2)).toInt.toNat = i * 48) (h3 : (idx (ix2 n 3)).toInt.toNat = j * 48) :
    Host.gather gather_S1x192x386x386_S64x4_S64x1x192x50x50_1234_n_n_n_0123_1_11925050 x idx (ix5 n 0 ci r q)
      = x (ix4 0 ci ⟨i * 48 + r.val, by omega⟩ ⟨j * 48 + q.val, by omega⟩) := by
  unfold Host.gather
  refine congrArg x (funext fun a => Fin.ext ?_)
  have hs := GatherDims.start_le gather_S1x192x386x386_S64x4_S64x1x192x50x50_1234_n_n_n_0123_1_11925050 (ix5 n 0 ci r q) idx a
  change GatherDims.start _ _ _ _ + GatherDims.batchCoord _ _ _ + GatherDims.offCoord _ _ _ = _
  rw [GatherDims.batchCoord_eq_zero _ _ _ List.not_mem_nil, Nat.add_zero]
  match a with
  | ⟨0, _⟩ => exact congrArg₂ (· + ·) (Nat.le_zero.1 hs) rfl
  | ⟨1, _⟩ => exact (congrArg₂ (· + ·) (Nat.le_zero.1 hs) rfl).trans (Nat.zero_add _)
  | ⟨2, _⟩ =>
    refine congrArg₂ (· + ·) ?_ rfl
    unfold GatherDims.start
    refine (dif_pos (show (2 : Fin 4) ∈ ([0, 1, 2, 3] : List (Fin 4)) from by decide)).trans ?_
    refine (congrArg (fun v : BitVec 32 => min v.toInt.toNat 336) (congrArg idx (?_ : _ = ix2 n 2))).trans ?_
    · funext k; refine Fin.ext ?_
      match k with
      | ⟨0, _⟩ => rfl
      | ⟨1, _⟩ => rfl
    · change min _ 336 = _
      rw [h2]; omega
  | ⟨3, _⟩ =>
    refine congrArg₂ (· + ·) ?_ rfl
    unfold GatherDims.start
    refine (dif_pos (show (3 : Fin 4) ∈ ([0, 1, 2, 3] : List (Fin 4)) from by decide)).trans ?_
    refine (congrArg (fun v : BitVec 32 => min v.toInt.toNat 336) (congrArg idx (?_ : _ = ix2 n 3))).trans ?_
    · funext k; refine Fin.ext ?_
      match k with
      | ⟨0, _⟩ => rfl
      | ⟨1, _⟩ => rfl
    · change min _ 336 = _
      rw [h3]; omega

/-- The padded image is the image with a border of zeros. -/
theorem padded_apply (ci : Fin 192) (h w : Fin 386) :
    A_main_v0 (F := Ideal) X ix Wt b g be (ix4 0 ci h w) = xpad X ci h.val w.val := by
  pointwise [A_main_v0, K_main_call0_v0, K_main_c]
  unfold xpad
  by_cases hw : (1 ≤ h.val ∧ h.val < 385) ∧ (1 ≤ w.val ∧ w.val < 385)
  · rw [dif_pos hw, dif_pos ⟨⟨hw.1.1, by omega⟩, hw.2.1, by omega⟩]
  · rw [dif_neg hw, dif_neg (fun h' => hw ⟨⟨h'.1.1, by omega⟩, h'.2.1, by omega⟩)]
    change (((0#32 : BitVec 32).toInt : ℝ) : EReal) = 0
    simp

/-- An entry of a gathered block. -/
theorem block_apply (n : Fin 64) (ci : Fin 192) (r q : Fin 50) (h1 : (ix (ix2 n 1)).toNat < 8) (h2 : (ix (ix2 n 2)).toNat < 8) :
    A_main_v35 (F := Ideal) X ix Wt b g be (ix4 n ci r q)
      = xpad X ci ((ix (ix2 n 1)).toNat * 48 + r.val) ((ix (ix2 n 2)).toNat * 48 + q.val) := by
  pointwise [A_main_v35, A_main_v34]
  exact (gather_apply _ _ n ci r q _ _ h1 h2 (start_row X ix Wt b g be n h1) (start_column X ix Wt b g be n h2)).trans
    (padded_apply X ix Wt b g be ci _ _)

/-- One tap of the window over a block, its weights the first factor, is the tap of the image at the block's place. -/
theorem block_tap (n : Fin 64) (o : Fin 192) (r q : Fin 48) (dh dw : Fin 3) (R Q : Fin 50) (hR : R.val = r.val + dh.val)
    (hQ : Q.val = q.val + dw.val) (h1 : (ix (ix2 n 1)).toNat < 8) (h2 : (ix (ix2 n 2)).toNat < 8) :
    ∑ ci : Fin 192, Wt (ix4 o ci dh dw) * A_main_v35 (F := Ideal) X ix Wt b g be (ix4 n ci R Q)
      = tap X Wt o dh dw ((ix (ix2 n 1)).toNat * 48 + r.val) ((ix (ix2 n 2)).toNat * 48 + q.val) := by
  unfold tap
  refine Finset.sum_congr rfl fun ci _ => ?_
  rw [block_apply X ix Wt b g be n ci R Q h1 h2, hR, hQ, Nat.add_assoc, Nat.add_assoc]
  exact mul_comm _ _

/-- Nine terms that agree one by one have the same sum. -/
theorem nine_terms {a₁ a₂ a₃ a₄ a₅ a₆ a₇ a₈ a₉ b₁ b₂ b₃ b₄ b₅ b₆ b₇ b₈ b₉ : EReal} (h₁ : a₁ = b₁) (h₂ : a₂ = b₂) (h₃ : a₃ = b₃)
    (h₄ : a₄ = b₄) (h₅ : a₅ = b₅) (h₆ : a₆ = b₆) (h₇ : a₇ = b₇) (h₈ : a₈ = b₈) (h₉ : a₉ = b₉) :
    a₁ + a₂ + a₃ + a₄ + a₅ + a₆ + a₇ + a₈ + a₉ = b₁ + b₂ + b₃ + b₄ + b₅ + b₆ + b₇ + b₈ + b₉ := by
  subst_vars; rfl

set_option maxHeartbeats 2000000 in
/-- The nine products of a block are the convolution at the block's place. -/
theorem block_conv (n : Fin 64) (o : Fin 192) (r q : Fin 48) (h1 : (ix (ix2 n 1)).toNat < 8) (h2 : (ix (ix2 n 2)).toNat < 8) :
    A_main_v90 (F := Ideal) X ix Wt b g be (ix4 n o r q)
      = conv X Wt o ((ix (ix2 n 1)).toNat * 48 + r.val) ((ix (ix2 n 2)).toNat * 48 + q.val) := by
  pointwise [A_main_v90, A_main_v89, A_main_v88, A_main_v87, A_main_v86, A_main_v85, A_main_v84, A_main_v83, A_main_v82, A_main_v81, A_main_v80, A_main_v79, A_main_v78, A_main_v77, A_main_v76, A_main_v75, A_main_v74, A_main_v73, A_main_v72, A_main_v71, A_main_v70, A_main_v69, A_main_v68, A_main_v67, A_main_v66, A_main_v65, A_main_v64, A_main_v63, A_main_v62, A_main_v61, A_main_v60, A_main_v59, A_main_v58, A_main_v57, A_main_v56, A_main_v55, A_main_v54, A_main_v53, A_main_v52, A_main_v51, A_main_v50, A_main_v49, A_main_v48, A_main_v47, A_main_v46, A_main_v45, A_main_v44, A_main_v43, A_main_v42, A_main_v41, A_main_v40, A_main_v39, A_main_v38, A_main_v37,
    K_main_v36, K_main_cst]
  have T := block_tap X ix Wt b g be n o r q
  unfold conv
  exact nine_terms (T 0 0 ⟨r.val, by omega⟩ ⟨q.val, by omega⟩ rfl rfl h1 h2)
    (T 0 1 ⟨r.val, by omega⟩ ⟨1 + q.val, by omega⟩ rfl (Nat.add_comm _ _) h1 h2)
    (T 0 2 ⟨r.val, by omega⟩ ⟨2 + q.val, by omega⟩ rfl (Nat.add_comm _ _) h1 h2)
    (T 1 0 ⟨1 + r.val, by omega⟩ ⟨q.val, by omega⟩ (Nat.add_comm _ _) rfl h1 h2)
    (T 1 1 ⟨1 + r.val, by omega⟩ ⟨1 + q.val, by omega⟩ (Nat.add_comm _ _) (Nat.add_comm _ _) h1 h2)
    (T 1 2 ⟨1 + r.val, by omega⟩ ⟨2 + q.val, by omega⟩ (Nat.add_comm _ _) (Nat.add_comm _ _) h1 h2)
    (T 2 0 ⟨2 + r.val, by omega⟩ ⟨q.val, by omega⟩ (Nat.add_comm _ _) rfl h1 h2)
    (T 2 1 ⟨2 + r.val, by omega⟩ ⟨1 + q.val, by omega⟩ (Nat.add_comm _ _) (Nat.add_comm _ _) h1 h2)
    (T 2 2 ⟨2 + r.val, by omega⟩ ⟨2 + q.val, by omega⟩ (Nat.add_comm _ _) (Nat.add_comm _ _) h1 h2)

end Cert.ReferenceIdeal.Blocks

end
-- ==== Proof.Tiles.lean ====
/-
  Sixty-four blocks of 48 rows and 48 columns that have different places in an eight by eight array of blocks: every place
  is taken by one of them, and a sum over the blocks' entries is the sum over the image.
-/
module

public import proofs.«01_k».proof.Proof.Conv

@[expose] public section

noncomputable section

namespace Cert.Block

/-- The blocks' row and column places are below eight, and no two blocks have the same. -/
structure Tiles (bi bj : Fin 64 → ℕ) : Prop where
  row : ∀ n, bi n < 8
  column : ∀ n, bj n < 8
  distinct : ∀ n n', bi n = bi n' → bj n = bj n' → n = n'

variable {bi bj : Fin 64 → ℕ}

/-- A block's place, as a pair. -/
def Tiles.place (T : Tiles bi bj) (n : Fin 64) : Fin 8 × Fin 8 := (⟨bi n, T.row n⟩, ⟨bj n, T.column n⟩)

/-- The blocks' places are all places, each once. -/
theorem Tiles.place_bijective (T : Tiles bi bj) : Function.Bijective T.place := by
  refine (Fintype.bijective_iff_injective_and_card _).2 ⟨fun n n' e => ?_, by simp⟩
  exact T.distinct n n' (congrArg (fun p => p.1.val) e) (congrArg (fun p => p.2.val) e)

/-- Every place has its block. -/
theorem Tiles.cover (T : Tiles bi bj) (i j : ℕ) (hi : i < 8) (hj : j < 8) : ∃ n, bi n = i ∧ bj n = j := by
  obtain ⟨n, hn⟩ := T.place_bijective.2 (⟨i, hi⟩, ⟨j, hj⟩)
  exact ⟨n, congrArg (fun p => p.1.val) hn, congrArg (fun p => p.2.val) hn⟩

/-- A sum over the blocks' entries is the sum over the image. -/
theorem Tiles.total_eq (T : Tiles bi bj) (f : ℕ → ℕ → EReal) :
    ∑ n : Fin 64, ∑ r : Fin 48, ∑ q : Fin 48, f (bi n * 48 + r.val) (bj n * 48 + q.val) = total f := by
  refine (Fintype.sum_bijective T.place T.place_bijective _
    (fun p : Fin 8 × Fin 8 => ∑ r : Fin 48, ∑ q : Fin 48, f (p.1.val * 48 + r.val) (p.2.val * 48 + q.val)) fun n => rfl).trans ?_
  unfold total
  rw [Fintype.sum_prod_type, ← Fin.sum_mul_add_fin 8 48 (fun h : Fin 384 => ∑ w : Fin 384, f h.val w.val)]
  refine Finset.sum_congr rfl fun i _ => ?_
  rw [Finset.sum_comm]
  refine Finset.sum_congr rfl fun r _ => ?_
  rw [← Fin.sum_mul_add_fin 8 48 (fun w : Fin 384 => f (i.val * 48 + r.val) w.val)]

end Cert.Block

end
-- ==== Proof.RefNorm.lean ====
/-
  The reference's normalised blocks: each channel's mean and variance are those of its values over the whole image, and an
  entry of a block is the normalised value at the block's place.
-/
module

public import proofs.«01_k».proof.Proof.RefBlocks
public import proofs.«01_k».proof.Proof.Tiles

@[expose] public section

set_option maxRecDepth 16384

noncomputable section

namespace Cert.ReferenceIdeal.Blocks

open Idealize.ShloMosaic Cert.ReferenceIdeal Cert.ReferenceIdeal.Gen Cert.ReferenceIdeal.Step Cert.Block

/-- A sum over the blocks, rows and columns of an array, at one channel. -/
theorem channel_sum (v : FVec Ideal S64x192x48x48 .f32) (z : FVec Ideal S_ .f32) (o : Fin 192) :
    Host.reduceAdd v z reducesTo_S64x192x48x48_S192_d0_2_3 h_S_ (ix1 o)
      = z ix0 + ∑ n : Fin 64, ∑ r : Fin 48, ∑ q : Fin 48, v (ix4 n o r q) := by
  have key : ∀ i : S64x192x48x48.Idx,
      reducesTo_S64x192x48x48_S192_d0_2_3.drop i = ix1 o ↔ i 1 = o := by
    intro i
    constructor
    · intro e
      exact Fin.ext (congrArg Fin.val (congrFun e 0))
    · intro e
      funext k
      refine Fin.ext ?_
      match k with
      | ⟨0, _⟩ => exact congrArg Fin.val e
  change z _ + ∑ i ∈ Finset.univ.filter (fun i => reducesTo_S64x192x48x48_S192_d0_2_3.drop i = ix1 o), v i = _
  refine congrArg₂ (· + ·) (congrArg z (Subsingleton.elim _ _)) ?_
  have hp : ∑ p : Fin 64 × Fin 48 × Fin 48, v (ix4 p.1 o p.2.1 p.2.2)
      = ∑ n : Fin 64, ∑ r : Fin 48, ∑ q : Fin 48, v (ix4 n o r q) := by
    simp only [Fintype.sum_prod_type]
  rw [← hp]
  refine Finset.sum_nbij' (fun i => ((i 0 : Fin 64), (i 2 : Fin 48), (i 3 : Fin 48))) (fun p => ix4 p.1 o p.2.1 p.2.2)
    (fun _ _ => Finset.mem_univ _) (fun p _ => Finset.mem_filter.2 ⟨Finset.mem_univ _, (key _).2 rfl⟩) (fun i hi => ?_)
    (fun p _ => rfl) (fun i hi => ?_)
  all_goals
    have h1 := (key i).1 (Finset.mem_filter.1 hi).2
    subst h1
  · exact (eq_ix4 (n0 := 64) (n1 := 192) (n2 := 48) (n3 := 48) i).symm
  · exact congrArg v (eq_ix4 (n0 := 64) (n1 := 192) (n2 := 48) (n3 := 48) i)

variable (X : FVec Ideal S1x192x384x384 .f32) (ix : IVec S64x3 32) (Wt : FVec Ideal S192x192x3x3 .f32)
  (b g be : FVec Ideal S192 .f32)

/-- The index rows put the blocks at the sixty-four places, in any order. -/
abbrev Covers (ix : IVec S64x3 32) : Prop := Tiles (fun n => (ix (ix2 n 1)).toNat) (fun n => (ix (ix2 n 2)).toNat)

/-- The convolution with its bias. -/
def biased (o : Fin 192) (h w : ℕ) : EReal := conv X Wt o h w + b (ix1 o)

/-- An entry of a block before the normalisation. -/
theorem biased_apply (hT : Covers ix) (n : Fin 64) (o : Fin 192) (r q : Fin 48) :
    A_main_v93 (F := Ideal) X ix Wt b g be (ix4 n o r q)
      = biased X Wt b o ((ix (ix2 n 1)).toNat * 48 + r.val) ((ix (ix2 n 2)).toNat * 48 + q.val) := by
  pointwise [A_main_v93, A_main_v92, A_main_v91]
  exact congrArg (· + _) (block_conv X ix Wt b g be n o r q (hT.row n) (hT.column n))

/-- A channel's sum. -/
theorem sum_apply (hT : Covers ix) (o : Fin 192) :
    A_main_v94 (F := Ideal) X ix Wt b g be (ix1 o) = total (biased X Wt b o) := by
  refine (channel_sum _ _ o).trans ?_
  rw [← hT.total_eq (biased X Wt b o)]
  refine (congrArg₂ (· + ·) (Ideal.ofBits_zero_f32) ?_).trans (zero_add _)
  exact Finset.sum_congr rfl fun n _ => Finset.sum_congr rfl fun r _ => Finset.sum_congr rfl fun q _ =>
    biased_apply X ix Wt b g be hT n o r q

/-- The number of places of an image, 147456, as the reference spells it. -/
abbrev places : EReal := Ideal.ofBits .f32 0x48100000#32

/-- It is the number. -/
theorem places_eq : places = ((147456 : ℝ) : EReal) := by
  simp [Ideal.ofBits, Ideal.ieee, -EReal.coe_mul]; norm_num

/-- A zero of the integers taken off it leaves it. -/
theorem places_sub : places - (FloatOps.sitofp FTy.f32 0#32 : Ideal .f32) = places := by
  change places - (((0#32 : BitVec 32).toInt : ℝ) : EReal) = places
  simp

/-- The mean of a channel's values. -/
def mean (f : ℕ → ℕ → EReal) : EReal := Ideal.div (total f) places

/-- The variance of a channel's values: the mean of the squares of what they differ from their mean. -/
def variance (f : ℕ → ℕ → EReal) : EReal :=
  Ideal.div (total fun h w => (f h w - mean f) * (f h w - mean f)) places

/-- A channel's value at a place, normalised: what it differs from the mean, over the root of the variance and the small
    number, scaled by `g`, shifted by `s`, and cut off at zero. -/
def normalised (f : ℕ → ℕ → EReal) (g s : EReal) (h w : ℕ) : EReal :=
  max (Ideal.div (f h w - mean f) (Ideal.sqrt (variance f + Ideal.ofBits .f32 0x3A83126F#32)) * g + s) 0

/-- A channel's mean, as the normalisation reads it. -/
theorem mean_apply (hT : Covers ix) (o : Fin 192) :
    Ideal.div (A_main_v94 (F := Ideal) X ix Wt b g be (ix1 o)) (K_main_cst_14 (F := Ideal) ix0) = mean (biased X Wt b o) :=
  congrArg (Ideal.div · places) (sum_apply X ix Wt b g be hT o)

/-- The square of what an entry differs from its channel's mean. -/
theorem square_apply (hT : Covers ix) (n : Fin 64) (o : Fin 192) (r q : Fin 48) :
    A_main_call1_v6 (F := Ideal) X ix Wt b g be (ix4 n o r q)
      = (biased X Wt b o ((ix (ix2 n 1)).toNat * 48 + r.val) ((ix (ix2 n 2)).toNat * 48 + q.val) - mean (biased X Wt b o))
        * (biased X Wt b o ((ix (ix2 n 1)).toNat * 48 + r.val) ((ix (ix2 n 2)).toNat * 48 + q.val) - mean (biased X Wt b o)) := by
  pointwise [A_main_call1_v6, A_main_call1_v5, A_main_call1_v4, A_main_call1_v3, A_main_call1_v1, A_main_call1_v0]
  have hd := congrArg₂ (fun x y : EReal => x - y) (biased_apply X ix Wt b g be hT n o r q) (mean_apply X ix Wt b g be hT o)
  exact congrArg₂ (fun x y : EReal => x * y) hd hd

/-- A channel's variance. -/
theorem var_apply (hT : Covers ix) (o : Fin 192) :
    A_main_v97 (F := Ideal) X ix Wt b g be (ix1 o) = variance (biased X Wt b o) := by
  pointwise [A_main_v97, A_main_call1_v11, K_main_call1_v10, K_main_call1_v8, K_main_call1_v7, K_main_call1_v12, K_main_c_15]
  have hN : K_main_call1_cst_1 (F := Ideal) ix0 - (FloatOps.sitofp FTy.f32 0#32 : Ideal .f32) = places := places_sub
  have hs : A_main_call1_v9 (F := Ideal) X ix Wt b g be (ix1 o)
      = total fun h w => (biased X Wt b o h w - mean (biased X Wt b o)) * (biased X Wt b o h w - mean (biased X Wt b o)) := by
    refine (channel_sum _ _ o).trans ?_
    rw [← hT.total_eq]
    refine (congrArg₂ (· + ·) (Ideal.ofBits_zero_f32) ?_).trans (zero_add _)
    exact Finset.sum_congr rfl fun n _ => Finset.sum_congr rfl fun r _ => Finset.sum_congr rfl fun q _ =>
      square_apply X ix Wt b g be hT n o r q
  have hp : K_main_call1_cst_3 (F := Ideal) ix0 < K_main_call1_cst_1 (F := Ideal) ix0 - (FloatOps.sitofp FTy.f32 0#32 : Ideal .f32) := by
    rw [hN, places_eq]
    change Ideal.ofBits .f32 0x00000000#32 < _
    rw [Ideal.ofBits_zero_f32]
    exact_mod_cast (by norm_num : (0 : ℝ) < 147456)
  rw [if_pos hp]
  exact congrArg₂ Ideal.div hs hN

/-- An entry of a block is the normalised value at the block's place. -/
theorem normalised_apply (hT : Covers ix) (n : Fin 64) (o : Fin 192) (r q : Fin 48) :
    A_main_v113 (F := Ideal) X ix Wt b g be (ix4 n o r q)
      = normalised (biased X Wt b o) (g (ix1 o)) (be (ix1 o)) ((ix (ix2 n 1)).toNat * 48 + r.val) ((ix (ix2 n 2)).toNat * 48 + q.val) := by
  pointwise [A_main_v113, A_main_v112, A_main_v111, A_main_v110, A_main_v109, A_main_v108, A_main_v107, A_main_v106, A_main_v105, A_main_v104, A_main_v103, A_main_v101, A_main_v100, A_main_v99, A_main_v98, A_main_v96, K_main_v95,K_main_v102,K_main_call2_v0]
  have hd := congrArg₂ (fun x y : EReal => x - y) (biased_apply X ix Wt b g be hT n o r q) (mean_apply X ix Wt b g be hT o)
  have hv : Ideal.sqrt (A_main_v97 (F := Ideal) X ix Wt b g be (ix1 o) + K_main_cst_16 (F := Ideal) ix0)
      = Ideal.sqrt (variance (biased X Wt b o) + Ideal.ofBits .f32 0x3A83126F#32) :=
    congrArg (fun x : EReal => Ideal.sqrt (x + Ideal.ofBits .f32 0x3A83126F#32)) (var_apply X ix Wt b g be hT o)
  have hq := congrArg₂ Ideal.div hd hv
  exact congrArg₂ (fun x y : EReal => max (x * g (ix1 o) + be (ix1 o)) y) hq (Ideal.ofBits_zero_f32)

end Cert.ReferenceIdeal.Blocks

end
-- ==== Proof.RefLoop.lean ====
/-
  The reference's loop: trip `k` writes block `k` at its place in the result, and as no two blocks have the same place, the
  result at the end holds at every index the entry of the block whose place it is in.
-/
module

public import proofs.«01_k».proof.Proof.RefEntry
public import proofs.«01_k».proof.Proof.RefNorm
public import proofs.«01_k».proof.Proof.Tiles
public import Idealize.ShloMosaic.Lib.DynamicIndex

@[expose] public section

set_option maxRecDepth 16384

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.Block

/-- A block written at row `48 i` and column `48 j`: there its entries, elsewhere what the image held. -/
theorem put_apply (out : FVec Ideal S1x192x384x384 .f32) (blk : FVec Ideal S1x192x48x48 .f32) (start : Fin 4 → Int)
    (i j : ℕ) (hi : i < 8) (hj : j < 8) (h2 : start 2 = (i * 48 : ℕ)) (h3 : start 3 = (j * 48 : ℕ)) (o : Fin 192) (h w : Fin 384) :
    Host.dynamicUpdateSlice out blk start updateFits_S1x192x384x384_S1x192x48x48 (ix4 0 o h w)
      = if i = h.val / 48 ∧ j = w.val / 48 then
          blk (ix4 0 o ⟨h.val % 48, Nat.mod_lt _ (by omega)⟩ ⟨w.val % 48, Nat.mod_lt _ (by omega)⟩)
        else out (ix4 0 o h w) := by
  have hs : S1x192x384x384.Slices ![0, 0, i * 48, j * 48] S1x192x48x48 :=
    ⟨rfl, fun a => by
      match a with
      | ⟨0, _⟩ => exact Nat.le_refl 1
      | ⟨1, _⟩ => exact Nat.le_refl 192
      | ⟨2, _⟩ => change i * 48 + 48 ≤ 384; omega
      | ⟨3, _⟩ => change j * 48 + 48 ≤ 384; omega⟩
  rw [Host.dynamicUpdateSlice_eq_updateSlice out blk start _ ![0, 0, i * 48, j * 48] (fun a => by
      match a with
      | ⟨0, _⟩ => change (min (max (start 0) 0) ((1 - 1 : ℕ) : Int)).toNat = 0; omega
      | ⟨1, _⟩ => change (min (max (start 1) 0) ((192 - 192 : ℕ) : Int)).toNat = 0; omega
      | ⟨2, _⟩ => change (min (max (start 2) 0) ((384 - 48 : ℕ) : Int)).toNat = i * 48; omega
      | ⟨3, _⟩ => change (min (max (start 3) 0) ((384 - 48 : ℕ) : Int)).toNat = j * 48; omega) hs]
  pointwise
  by_cases hp : i = h.val / 48 ∧ j = w.val / 48
  · rw [dif_pos ⟨⟨by omega, by omega⟩, by omega, by omega⟩, if_pos hp]
    refine congrArg blk (congrArg₂ (ix4 0 o) (Fin.ext ?_) (Fin.ext ?_))
    · change h.val - i * 48 = h.val % 48; omega
    · change w.val - j * 48 = w.val % 48; omega
  · rw [dif_neg (fun c => hp ⟨by omega, by omega⟩), if_neg hp]

/-- One block of the sixty-four. -/
theorem take_apply (Q : FVec Ideal S64x192x48x48 .f32) (start : Fin 4 → Int) (n : Fin 64) (h0 : start 0 = (n.val : ℕ))
    (o : Fin 192) (r q : Fin 48) :
    Host.dynamicSlice S1x192x48x48 Q start sliceFits_S64x192x48x48_S1x192x48x48 (ix4 0 o r q) = Q (ix4 n o r q) := by
  unfold Host.dynamicSlice
  refine congrArg Q (funext fun a => Fin.ext ?_)
  match a with
  | ⟨0, _⟩ => change (min (max (start 0) 0) ((64 - 1 : ℕ) : Int)).toNat + 0 = n.val; omega
  | ⟨1, _⟩ => change (min (max (start 1) 0) ((192 - 192 : ℕ) : Int)).toNat + o.val = o.val; omega
  | ⟨2, _⟩ => change (min (max (start 2) 0) ((48 - 48 : ℕ) : Int)).toNat + r.val = r.val; omega
  | ⟨3, _⟩ => change (min (max (start 3) 0) ((48 - 48 : ℕ) : Int)).toNat + q.val = q.val; omega

/-- One row of the index rows. -/
theorem row_apply (ix : IVec S64x3 32) (start : Fin 2 → Int) (n : Fin 64) (h0 : start 0 = (n.val : ℕ)) (k : Fin 3) :
    Host.dynamicSlice S1x3 ix start sliceFits_S64x3_S1x3 (ix2 0 k) = ix (ix2 n k) := by
  unfold Host.dynamicSlice
  refine congrArg ix (funext fun a => Fin.ext ?_)
  match a with
  | ⟨0, _⟩ => change (min (max (start 0) 0) ((64 - 1 : ℕ) : Int)).toNat + 0 = n.val; omega
  | ⟨1, _⟩ => change (min (max (start 1) 0) ((3 - 3 : ℕ) : Int)).toNat + k.val = k.val; omega

/-- The trip's number, wrapped as an index of 64, is itself. -/
theorem trip_word (v : IVec S_ 32) (k : ℕ) (hk : k < 64) (hv : v = constantI S_ 32 (BitVec.ofNat 32 k)) (x : IVec S_ 32) :
    ((select (cmpi .slt v (constantI S_ 32 0#32)) x v) (Shape.Idx.first h_S_)).toInt = (k : ℕ) := by
  subst hv
  have hk' : (BitVec.ofNat 32 k).toInt = k := toInt_ofNat_of_lt (by omega)
  rw [select_slt_zero_of_nonneg _ _ _ _ (by change 0 ≤ (BitVec.ofNat 32 k).toInt; omega)]
  exact hk'

/-- A place below eight, times 48, wrapped as an index of 384, is itself. -/
theorem place_word (v : IVec S_ 32) (u : BitVec 32) (hu : u.toNat < 8) (hv : v = constantI S_ 32 (u * 48#32)) (x : IVec S_ 32) :
    ((select (cmpi .slt v (constantI S_ 32 0#32)) x v) (Shape.Idx.first h_S_)).toInt = (u.toNat * 48 : ℕ) := by
  subst hv
  obtain ⟨h1, -, -⟩ := Blocks.times48 u hu
  have h2 : (u * 48#32).toInt = (u.toNat * 48 : ℕ) := by
    rw [BitVec.toInt_eq_toNat_cond, h1]; split <;> omega
  rw [select_slt_zero_of_nonneg _ _ _ _ (by change 0 ≤ (u * 48#32).toInt; omega)]
  exact h2

/-- The number 1 of three, times 48. -/
theorem pick_row (u : IVec S3 32) (y : S_.Idx) :
    muli (shapeCast S_ (extractStridedSlice S1 ![1] u slices_S3_S1_1) shapeCasts_S1_S_) (constantI S_ 32 48#32) y = u (ix1 1) * 48#32 := by
  pointwise
  rfl

/-- The number 2 of three, times 48. -/
theorem pick_column (u : IVec S3 32) (y : S_.Idx) :
    muli (shapeCast S_ (extractStridedSlice S1 ![2] u slices_S3_S1_2) shapeCasts_S1_S_) (constantI S_ 32 48#32) y = u (ix1 2) * 48#32 := by
  pointwise
  rfl

variable (V : Valuation τ sig (Elt Ideal))

/-- The three numbers of the trip's row. -/
theorem numbers (ix : IVec S64x3 32) (k : ℕ) (hk : k < 64)
    (h0 : V (Proc.devRef .tc main_v115_0) = ix) (h3 : V (Proc.devRef .tc main_v115_3) = constantI S_ 32 (BitVec.ofNat 32 k)) (a : Fin 3) :
    (res_main_while0b_v125 V : IVec S3 32) (ix1 a) = ix (ix2 ⟨k, hk⟩ a) := by
  have e : (res_main_while0b_v125 V : IVec S3 32) (ix1 a) = (Host.dynamicSlice S1x3 (V (Proc.devRef .tc main_v115_0) : IVec S64x3 32) (fun k => (((![select (cmpi .slt (res_main_while0b_v117 V) (constantI S_ 32 0#32)) (addi (res_main_while0b_v117 V) (constantI S_ 32 64#32)) (res_main_while0b_v117 V), select (cmpi .slt (constantI S_ 32 0#32) (constantI S_ 32 0#32)) (addi (constantI S_ 32 0#32) (constantI S_ 32 3#32)) (constantI S_ 32 0#32)] : Fin 2 → (⟨S_, .i32⟩ : BufTy).Contents (Elt Ideal))) k (Shape.Idx.first h_S_)).toInt) sliceFits_S64x3_S1x3) (ix2 0 a) := by
    unfold res_main_while0b_v125
    pointwise
  rw [e, h0]
  exact row_apply ix _ ⟨k, hk⟩ (trip_word (res_main_while0b_v117 V) k hk h3 _) a

/-- The row place of the trip's block, times 48. -/
theorem row_place (ix : IVec S64x3 32) (k : ℕ) (hk : k < 64)
    (h0 : V (Proc.devRef .tc main_v115_0) = ix) (h3 : V (Proc.devRef .tc main_v115_3) = constantI S_ 32 (BitVec.ofNat 32 k)) :
    (res_main_while0b_v135 V : IVec S_ 32) = constantI S_ 32 (ix (ix2 ⟨k, hk⟩ 1) * 48#32) := by
  funext y
  exact (pick_row (res_main_while0b_v125 V) y).trans (congrArg (fun u : BitVec 32 => u * 48#32) (numbers V ix k hk h0 h3 1))

/-- The column place of the trip's block, times 48. -/
theorem column_place (ix : IVec S64x3 32) (k : ℕ) (hk : k < 64)
    (h0 : V (Proc.devRef .tc main_v115_0) = ix) (h3 : V (Proc.devRef .tc main_v115_3) = constantI S_ 32 (BitVec.ofNat 32 k)) :
    (res_main_while0b_v138 V : IVec S_ 32) = constantI S_ 32 (ix (ix2 ⟨k, hk⟩ 2) * 48#32) := by
  funext y
  exact (pick_column (res_main_while0b_v125 V) y).trans (congrArg (fun u : BitVec 32 => u * 48#32) (numbers V ix k hk h0 h3 2))

/-- What trip `k` leaves in the result: block `k` at its place, elsewhere what was there. -/
theorem trip_apply (ix : IVec S64x3 32) (Q : FVec Ideal S64x192x48x48 .f32) (hT : Blocks.Covers ix) (k : ℕ) (hk : k < 64)
    (h0 : V (Proc.devRef .tc main_v115_0) = ix) (h1 : V (Proc.devRef .tc main_v115_1) = Q)
    (h3 : V (Proc.devRef .tc main_v115_3) = constantI S_ 32 (BitVec.ofNat 32 k)) (o : Fin 192) (h w : Fin 384) :
    (STEP V (Proc.devRef .tc main_v115_4) : FVec Ideal S1x192x384x384 .f32) (ix4 0 o h w)
      = if (ix (ix2 ⟨k, hk⟩ 1)).toNat = h.val / 48 ∧ (ix (ix2 ⟨k, hk⟩ 2)).toNat = w.val / 48 then
          Q (ix4 ⟨k, hk⟩ o ⟨h.val % 48, Nat.mod_lt _ (by omega)⟩ ⟨w.val % 48, Nat.mod_lt _ (by omega)⟩)
        else (V (Proc.devRef .tc main_v115_4) : FVec Ideal S1x192x384x384 .f32) (ix4 0 o h w) := by
  rw [STEP_main_v115_4]
  refine (put_apply (V (Proc.devRef .tc main_v115_4)) _ _ _ _ (hT.row ⟨k, hk⟩) (hT.column ⟨k, hk⟩)
    (place_word (res_main_while0b_v135 V) _ (hT.row ⟨k, hk⟩) (row_place V ix k hk h0 h3) _)
    (place_word (res_main_while0b_v138 V) _ (hT.column ⟨k, hk⟩) (column_place V ix k hk h0 h3) _) o h w).trans ?_
  refine if_congr Iff.rfl ?_ rfl
  rw [h1]
  exact take_apply Q _ ⟨k, hk⟩ (trip_word (V (Proc.devRef .tc main_v115_3)) k hk h3 _) o _ _

/-- Before trip `k`: the index rows and the blocks are as they were, the counter is `k`, and the blocks below `k` are in
    their places. -/
structure Before (ix : IVec S64x3 32) (Q : FVec Ideal S64x192x48x48 .f32) (k : ℕ) (V : Valuation τ sig (Elt Ideal)) : Prop where
  rows : V (Proc.devRef .tc main_v115_0) = ix
  blocks : V (Proc.devRef .tc main_v115_1) = Q
  counter : V (Proc.devRef .tc main_v115_3) = constantI S_ 32 (BitVec.ofNat 32 k)
  placed : ∀ (n : Fin 64), n.val < k → ∀ (o : Fin 192) (h w : Fin 384),
    (ix (ix2 n 1)).toNat = h.val / 48 → (ix (ix2 n 2)).toNat = w.val / 48 →
    (V (Proc.devRef .tc main_v115_4) : FVec Ideal S1x192x384x384 .f32) (ix4 0 o h w)
      = Q (ix4 n o ⟨h.val % 48, Nat.mod_lt _ (by omega)⟩ ⟨w.val % 48, Nat.mod_lt _ (by omega)⟩)

/-- One trip takes it to the next. -/
theorem Before.step {ix : IVec S64x3 32} {Q : FVec Ideal S64x192x48x48 .f32} (hT : Blocks.Covers ix) {k : ℕ} (hk : k < 64)
    {V : Valuation τ sig (Elt Ideal)} (B : Before ix Q k V) : Before ix Q (k + 1) (STEP V) where
  rows := (STEP_main_v115_0 V).trans B.rows
  blocks := (STEP_main_v115_1 V).trans B.blocks
  counter := by
    refine (STEP_main_v115_3 V).trans ?_
    unfold step_main_v115_3
    rw [B.counter]
    funext y
    change BitVec.ofNat 32 k + 1#32 = BitVec.ofNat 32 (k + 1)
    simp only [BitVec.ofNat_add]
  placed n hn o h w h1 h2 := by
    refine (trip_apply V ix Q hT k hk B.rows B.blocks B.counter o h w).trans ?_
    by_cases hp : (ix (ix2 ⟨k, hk⟩ 1)).toNat = h.val / 48 ∧ (ix (ix2 ⟨k, hk⟩ 2)).toNat = w.val / 48
    · obtain rfl : n = ⟨k, hk⟩ := hT.distinct n ⟨k, hk⟩ (h1.trans hp.1.symm) (h2.trans hp.2.symm)
      rw [if_pos hp]
    · rw [if_neg hp]
      refine B.placed n ?_ o h w h1 h2
      have : n.val ≠ k := fun e => hp (by
        obtain rfl : n = ⟨k, hk⟩ := Fin.ext e
        exact ⟨h1, h2⟩)
      omega

/-- After `k` trips from the start. -/
theorem Before.iterate {ix : IVec S64x3 32} {Q : FVec Ideal S64x192x48x48 .f32} (hT : Blocks.Covers ix)
    {V : Valuation τ sig (Elt Ideal)} (B : Before ix Q 0 V) : ∀ k, k ≤ 64 → Before ix Q k (STEP^[k] V)
  | 0, _ => B
  | k + 1, hk => by
    rw [Function.iterate_succ_apply']
    exact (B.iterate hT k (by omega)).step hT (by omega)

variable (m : (ℓ : Loc nD τ sig) → Buf (Elt Ideal) ℓ) (c : Dev nD)

/-- The index rows of a launch. -/
abbrev indices : IVec S64x3 32 := m ((c.tc : Thread nD τ).loc main_arg1)

/-- The normalised blocks of a launch. -/
abbrev normBlocks : FVec Ideal S64x192x48x48 .f32 :=
  Step.A_main_v113 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))

set_option maxRecDepth 65536 in
set_option maxHeartbeats 2000000 in
theorem entry_rows : entryContents (F := Ideal) preI m c (Proc.devRef .tc main_v115_0) = indices m c := by
  simp only [entryContents, afterL_cons, afterL_nil]
  after_reads_simp
  rfl

set_option maxRecDepth 65536 in
set_option maxHeartbeats 2000000 in
theorem entry_counter : entryContents (F := Ideal) preI m c (Proc.devRef .tc main_v115_3) = constantI S_ 32 (BitVec.ofNat 32 0) := by
  simp only [entryContents, afterL_cons, afterL_nil]
  after_reads_simp
  rfl

/-- At the loop's entry no block is placed yet. -/
theorem entry_before : Before (indices m c) (normBlocks m c) 0 (entryContents (F := Ideal) preI m c) where
  rows := entry_rows m c
  blocks := entry_norm m c
  counter := entry_counter m c
  placed n hn := absurd hn (Nat.not_lt_zero _)

/-- The reference's result: at every index the normalised value there. -/
theorem result_eq (hT : Blocks.Covers (indices m c)) (o : Fin 192) (h w : Fin 384) :
    ((STEP^[64] (entryContents (F := Ideal) preI m c)) (Proc.devRef .tc main_v115_4) : FVec Ideal S1x192x384x384 .f32) (ix4 0 o h w)
      = Blocks.normalised (Blocks.biased (m ((c.tc : Thread nD τ).loc main_arg0)) (m ((c.tc : Thread nD τ).loc main_arg3)) (m ((c.tc : Thread nD τ).loc main_arg4)) o)
          ((m ((c.tc : Thread nD τ).loc main_arg5) : FVec Ideal S192 .f32) (ix1 o)) ((m ((c.tc : Thread nD τ).loc main_arg6) : FVec Ideal S192 .f32) (ix1 o)) h.val w.val := by
  obtain ⟨n, hn1, hn2⟩ := hT.cover (h.val / 48) (w.val / 48) (by omega) (by omega)
  refine (((entry_before m c).iterate hT 64 (Nat.le_refl _)).placed n n.isLt o h w hn1 hn2).trans ?_
  refine (Blocks.normalised_apply _ _ _ _ _ _ hT n o _ _).trans ?_
  refine congrArg₂ (Blocks.normalised _ _ _) ?_ ?_
  · change (indices m c (ix2 n 1)).toNat * 48 + h.val % 48 = h.val
    rw [hn1]; omega
  · change (indices m c (ix2 n 2)).toNat * 48 + w.val % 48 = w.val
    rw [hn2]; omega

end Cert.ReferenceIdeal.Loop

end
-- ==== Proof.Algebra.lean ====
/-
  The two spellings of the normalisation agree on finite values: the reference's mean and variance of the convolution with
  its bias are, the bias cancelling, the kernel's from the sum and the sum of squares of the bare convolution, and a
  quotient by the root is a product with the root's reciprocal.
-/
module

public import proofs.«01_k».proof.Proof.RefNorm
public import proofs.«01_k».proof.Proof.Region1

@[expose] public section

noncomputable section

namespace Cert.Block

open Idealize.ShloMosaic Cert.ReferenceIdeal.Blocks Cert.KernelIdeal.Value

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

/-- A finite sum of reals, taken in the extended reals, is their sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i, IsReal (f i)) : IsReal (∑ i ∈ s, f i) := by
  choose g hg using hf
  exact ⟨∑ i ∈ s, g i, by rw [← coe_sum]; exact Finset.sum_congr rfl fun i _ => hg i⟩

/-- The convolution of a finite image by finite weights is finite. -/
theorem conv_real (X : Image) (Wt : Weights) (hX : ∀ i, IsReal (X i)) (hW : ∀ i, IsReal (Wt i)) (o : Fin 192) (h w : ℕ) :
    IsReal (conv X Wt o h w) := by
  have hpad : ∀ ci h w, IsReal (xpad X ci h w) := fun ci h w => by
    unfold xpad; split
    · exact hX _
    · exact ⟨0, by simp⟩
  have ht : ∀ dh dw, IsReal (tap X Wt o dh dw h w) := fun dh dw => IsReal.sum _ fun ci => (hpad _ _ _).mul (hW _)
  unfold conv
  exact ((((((((ht _ _).add (ht _ _)).add (ht _ _)).add (ht _ _)).add (ht _ _)).add (ht _ _)).add (ht _ _)).add (ht _ _)).add (ht _ _)

/-- The sum over an image's places, of real numbers. -/
def rtotal (f : ℕ → ℕ → ℝ) : ℝ := ∑ h : Fin 384, ∑ w : Fin 384, f h.val w.val

theorem total_coe (f : ℕ → ℕ → ℝ) : (total fun h w => ((f h w : ℝ) : EReal)) = ((rtotal f : ℝ) : EReal) := by
  unfold total rtotal
  rw [← coe_sum]
  exact Finset.sum_congr rfl fun h _ => coe_sum _ _

/-- Adding a constant to every value adds it 147456 times to the sum. -/
theorem rtotal_add_const (f : ℕ → ℕ → ℝ) (b : ℝ) : rtotal (fun h w => f h w + b) = rtotal f + 147456 * b := by
  unfold rtotal
  simp only [Finset.sum_add_distrib, Finset.sum_const, Finset.card_univ, Fintype.card_fin, nsmul_eq_mul]
  push_cast; ring

/-- The sum of the squares of what the values differ from a number. -/
theorem rtotal_sq_sub (f : ℕ → ℕ → ℝ) (a : ℝ) :
    rtotal (fun h w => (f h w - a) * (f h w - a)) = rtotal (fun h w => f h w * f h w) - 2 * a * rtotal f + 147456 * (a * a) := by
  have e : (fun h w => (f h w - a) * (f h w - a)) = fun h w => (f h w * f h w + (- (2 * a)) * f h w) + a * a := by
    funext h w; ring
  rw [e, rtotal_add_const]
  unfold rtotal
  simp only [Finset.sum_add_distrib, ← Finset.mul_sum]
  ring

/-- The small number under the root is positive. -/
theorem small_pos : ∃ e : ℝ, 0 < e ∧ Ideal.ofBits .f32 0x3A83126F#32 = ((e : ℝ) : EReal) := by
  refine ⟨8589935 / 8589934592, by norm_num, ?_⟩
  simp [Ideal.ofBits, Ideal.ieee, -EReal.coe_mul]; norm_num

/-- A real number and what a difference with a real leaves, regrouped around any extended real. -/
theorem regroup (a c : ℝ) (s : EReal) : ((a : ℝ) : EReal) + (s - ((c : ℝ) : EReal)) = (((a - c : ℝ)) : EReal) + s := by
  induction s using EReal.rec with
  | bot => simp
  | top => rw [EReal.top_sub_coe, EReal.coe_add_top, EReal.coe_add_top]
  | coe s => norm_cast; ring

/-- The reference's normalised value is the kernel's: for a real convolution, a real bias and a real scale, at any shift. -/
theorem normalised_eq (q : ℕ → ℕ → EReal) (hq : ∀ h w, IsReal (q h w)) (b g s : EReal) (hb : IsReal b) (hg : IsReal g) (h w : ℕ) :
    normalised (fun h w => q h w + b) g s h w = normalise (total q) (total fun h w => q h w * q h w) g s (q h w) := by
  choose Q hQ using hq
  obtain ⟨b, rfl⟩ := hb
  obtain ⟨g, rfl⟩ := hg
  obtain ⟨e, he, hE⟩ := small_pos
  obtain rfl : q = fun h w => ((Q h w : ℝ) : EReal) := funext fun h => funext fun w => hQ h w
  set k : ℝ := 1 / 147456 with hk
  set S : ℝ := rtotal Q with hS
  set S2 : ℝ := rtotal (fun h w => Q h w * Q h w) with hS2
  set V : ℝ := S2 * k - S * k * (S * k) with hV
  have hdiv : ∀ x : EReal, Ideal.div x places = x * ((k : ℝ) : EReal) := fun x => by
    rw [places_eq, Ideal.div_coe (by norm_num)]
  have hmean : mean (fun h w => ((Q h w : ℝ) : EReal) + ((b : ℝ) : EReal)) = ((S * k + b : ℝ) : EReal) := by
    unfold mean
    rw [hdiv]
    have := total_coe fun h w => Q h w + b
    simp only [EReal.coe_add] at this
    rw [this, ← EReal.coe_mul, rtotal_add_const]
    exact congrArg Real.toEReal (by rw [hk]; ring)
  have hdiff : ∀ h w, ((Q h w : ℝ) : EReal) + ((b : ℝ) : EReal) - ((S * k + b : ℝ) : EReal) = ((Q h w - S * k : ℝ) : EReal) := fun h w => by
    rw [← EReal.coe_add, ← EReal.coe_sub]
    exact congrArg Real.toEReal (by ring)
  have hvar : rtotal (fun h w => (Q h w - S * k) * (Q h w - S * k)) * k = V := by
    rw [rtotal_sq_sub, hV, hk]; ring
  have hvariance : variance (fun h w => ((Q h w : ℝ) : EReal) + ((b : ℝ) : EReal)) = ((V : ℝ) : EReal) := by
    unfold variance
    rw [hdiv, hmean]
    simp only [hdiff, ← EReal.coe_mul]
    rw [total_coe, ← EReal.coe_mul, hvar]
  have hV0 : 0 ≤ V := by
    rw [← hvar]
    refine mul_nonneg (Finset.sum_nonneg fun _ _ => Finset.sum_nonneg fun _ _ => mul_self_nonneg _) (by rw [hk]; norm_num)
  have hpos : 0 < V + e := by linarith
  have hroot : Real.sqrt (V + e) ≠ 0 := (Real.sqrt_pos.2 hpos).ne'
  unfold normalised normalise
  rw [hmean, hvariance, hE, hdiff]
  simp only [← EReal.coe_mul, total_coe]
  rw [← hk, ← hS, ← hS2]
  simp only [← EReal.coe_mul, ← EReal.coe_sub, ← EReal.coe_add]
  rw [← hV, Ideal.sqrt_coe, Ideal.rsqrt_coe, if_neg hpos.not_gt, if_neg hpos.not_gt, if_neg hpos.ne', Ideal.div_coe hroot]
  simp only [← EReal.coe_mul]
  rw [regroup]
  exact congrArg (fun x : ℝ => max ((x : EReal) + s) 0) (by ring)

end Cert.Block

end
-- ==== Proof.Pre.lean ====
/-
  What the precondition says of the arguments: the index rows put the blocks at the sixty-four places, each at its own, and
  the image, the weights, the bias and the scale are finite.
-/
module

public import proofs.«01_k».proof.Proof.Gen.Pre_blocks_tile_finite
public import proofs.«01_k».proof.Proof.Algebra
public import Idealize.ShloMosaic.Lib.ReduceAll
public import Idealize.ShloMosaic.Lib.Affine

@[expose] public section

set_option maxRecDepth 16384

noncomputable section

namespace Cert.Pre_blocks_tile_finite

open Idealize.ShloMosaic Cert.Pre_blocks_tile_finite.Gen Cert.Block

/-- A value whose absolute value is below plus infinity is a real number. -/
theorem real_of_abs_lt {s : Shape} (x : FVec Ideal s .f32) (t : FVec Ideal s .f32) (ht : ∀ i, t i = (⊤ : EReal))
    (i : s.Idx) (h : cmpf .olt (Host.absf x) t i = 1#1) : IsReal (x i) := by
  have h' : max (x i) (-(x i) : EReal) < t i := by
    by_contra hn
    have : cmpf .olt (Host.absf x) t i = BitVec.ofBool (decide (max (x i) (-(x i) : EReal) < t i)) := rfl
    rw [this, decide_eq_false hn] at h
    exact absurd h (by decide)
  rw [ht i] at h'
  generalize (x i : EReal) = y at h'
  induction y using EReal.rec with
  | bot => simp at h'
  | top => simp at h'
  | coe r => exact ⟨r, rfl⟩

/-- The word of plus infinity. -/
theorem inf_top : Ideal.ofBits .f32 0x7F800000#32 = (⊤ : EReal) := by simp [Ideal.ofBits, Ideal.ieee]

variable (X : FVec Ideal S1x192x384x384 .f32) (ix : IVec S64x3 32) (a2 : IVec S1 32) (Wt : FVec Ideal S192x192x3x3 .f32)
  (b g be : FVec Ideal S192 .f32)

/-- The finite arguments. -/
theorem finite (h : fn (F := Ideal) X ix a2 Wt b g be = fun _ => 1#1) :
    ((∀ i, IsReal (X i)) ∧ ∀ i, IsReal (Wt i)) ∧ (∀ i, IsReal (b i)) ∧ ∀ i, IsReal (g i) := by
  have h' := congrFun h (ix2 0 0)
  dsimp only [fn, fn_part1, fn_part2] at h'
  obtain ⟨-, hf⟩ := IntOp.andi_eq_one.1 h'
  obtain ⟨hf, hg⟩ := IntOp.andi_eq_one.1 hf
  obtain ⟨hf, hb⟩ := IntOp.andi_eq_one.1 hf
  obtain ⟨hX, hW⟩ := IntOp.andi_eq_one.1 hf
  have : Subsingleton S_.Idx := ⟨fun a b => funext fun k => k.elim0⟩
  exact ⟨⟨fun i => real_of_abs_lt X _ (fun _ => inf_top) i (Host.reduce_andi_all _ _ _ _ _ hX i),
    fun i => real_of_abs_lt Wt _ (fun _ => inf_top) i (Host.reduce_andi_all _ _ _ _ _ hW i)⟩,
    fun i => real_of_abs_lt b _ (fun _ => inf_top) i (Host.reduce_andi_all _ _ _ _ _ hb i),
    fun i => real_of_abs_lt g _ (fun _ => inf_top) i (Host.reduce_andi_all _ _ _ _ _ hg i)⟩

/-- What an entry of the precondition says of a row and of two rows. -/
theorem entry (h : fn (F := Ideal) X ix a2 Wt b g be = fun _ => 1#1) (i j : Fin 64) :
    ((ix (ix2 i 1) * 8#32 + ix (ix2 i 2) ≠ ix (ix2 j 1) * 8#32 + ix (ix2 j 2)) ∨ i = j)
      ∧ (ix (ix2 i 1)).toNat < 8 ∧ (ix (ix2 i 2)).toNat < 8 := by
  have h' := congrFun h (ix2 i j)
  dsimp only [fn, fn_part1, fn_part2] at h'
  obtain ⟨hi, -⟩ := IntOp.andi_eq_one.1 h'
  obtain ⟨hd, hr⟩ := IntOp.andi_eq_one.1 hi
  clear h h' hi
  pointwise at hd
  pointwise at hr
  obtain ⟨hr, h2b⟩ := IntOp.andi_eq_one.1 hr
  obtain ⟨hr, h2a⟩ := IntOp.andi_eq_one.1 hr
  obtain ⟨h1a, h1b⟩ := IntOp.andi_eq_one.1 hr
  have small : ∀ v : BitVec 32, IntOp.cmpi .sge v 0#32 = 1#1 → IntOp.cmpi .slt v 8#32 = 1#1 → v.toNat < 8 := fun v h0 h8 => by
    rw [IntOp.cmpi_sge] at h0
    rw [IntOp.cmpi_slt] at h8
    have e0 : (0#32 : BitVec 32).toInt = 0 := by decide
    have e8 : (8#32 : BitVec 32).toInt = 8 := by decide
    rw [e0] at h0
    rw [e8] at h8
    rw [BitVec.toInt_eq_toNat_cond] at h0 h8
    split at h0 <;> omega
  refine ⟨?_, small _ h1a h1b, small _ h2a h2b⟩
  rcases IntOp.ori_eq_one.1 hd with hne | heq
  · exact Or.inl (IntOp.cmpi_ne.1 hne)
  · refine Or.inr (Fin.ext ?_)
    have := congrArg BitVec.toNat (IntOp.cmpi_eq.1 heq)
    simp only [BitVec.toNat_ofNat] at this
    omega

/-- The index rows put the blocks at the sixty-four places, each at its own. -/
theorem covers (h : fn (F := Ideal) X ix a2 Wt b g be = fun _ => 1#1) : Cert.ReferenceIdeal.Blocks.Covers ix where
  row n := (entry X ix a2 Wt b g be h n n).2.1
  column n := (entry X ix a2 Wt b g be h n n).2.2
  distinct n n' e1 e2 := by
    rcases (entry X ix a2 Wt b g be h n n').1 with hne | heq
    · refine absurd ?_ hne
      rw [BitVec.eq_of_toNat_eq e1, BitVec.eq_of_toNat_eq e2]
    · exact heq

end Cert.Pre_blocks_tile_finite

end
-- ==== Proof.Equation.lean ====
/-
  The kernel's result is the reference's. Entry by entry both are the batch normalisation of the convolution: the kernel's of
  the convolution without the bias, with the variance as the mean of squares less the square of the mean, the reference's of
  the convolution with the bias, with the variance as the mean of the squared differences. Where the image, the weights, the
  bias and the scale are real numbers the two agree.
-/
module

public import proofs.«01_k».proof.Defs
public import proofs.«01_k».proof.Proof.KernelRun
public import proofs.«01_k».proof.Proof.KernelValue
public import proofs.«01_k».proof.Proof.RefLoop
public import proofs.«01_k».proof.Proof.Algebra
public import proofs.«01_k».proof.Proof.Pre
public import Idealize.ShloMosaic.Lib.Quiescent

@[expose] public section

set_option maxRecDepth 16384

noncomputable section

namespace Cert.Equation

open Idealize.ShloMosaic Idealize.ShloMosaic.TcCoe Idealize.SL.Sem
open Cert.Block Cert.ReferenceIdeal.Blocks Cert.KernelIdeal.Value

/-- An array whose entries are the reference's is an array whose entries are the kernel's. -/
theorem arrays_eq (X : Image) (Wt : Weights) (b g s : Channel) (hX : ∀ i, IsReal (X i)) (hW : ∀ i, IsReal (Wt i))
    (hb : ∀ i, IsReal (b i)) (hg : ∀ i, IsReal (g i)) (u v : Image)
    (hu : ∀ (o : Fin 192) (h w : Fin 384), u (ix4 0 o h w) = normalised (biased X Wt b o) (g (ix1 o)) (s (ix1 o)) h.val w.val)
    (hv : ∀ (o : Fin 192) (h w : Fin 384), v (ix4 0 o h w)
      = normalise (total (conv X Wt o)) (total fun h w => conv X Wt o h w * conv X Wt o h w) (g (ix1 o)) (s (ix1 o))
          (conv X Wt o h.val w.val)) : u = v := by
  funext i
  have hi : i = ix4 0 (i 1) (i 2) (i 3) :=
    (eq_ix4 (n0 := 1) (n1 := 192) (n2 := 384) (n3 := 384) i).trans
      (congrArg (fun z : Fin 1 => ix4 (n0 := 1) (n1 := 192) (n2 := 384) (n3 := 384) z (i 1) (i 2) (i 3)) (Subsingleton.elim _ _))
  rw [hi]
  exact (hu (i 1) (i 2) (i 3)).trans
    ((normalised_eq (conv X Wt (i 1)) (conv_real X Wt hX hW (i 1)) (b (ix1 (i 1))) (g (ix1 (i 1))) (s (ix1 (i 1))) (hb _) (hg _)
      (i 2).val (i 3).val).trans (hv (i 1) (i 2) (i 3)).symm)

/-- The reference runs, its arguments end unchanged, and it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- From memories that agree on the arguments, kernel and reference end with the same result. -/
theorem algebraic : Cert.algebraic_KernelIdeal_ReferenceIdeal_pre_blocks_tile_finite := by
  intro m g m' g' hpre hagree
  refine ⟨fun c => Cert.KernelIdeal.Gen.W5 m g c (Proc.devRef .tc Cert.KernelIdeal.main_v8), Cert.KernelIdeal.Value.run m g,
    (θ_run Cert.ReferenceIdeal.defs _ _).mono (fun r h c => ⟨(h c).1.trans ?_, (h c).2⟩)
      (Cert.ReferenceIdeal.Value.run (F := Ideal) m' g')⟩
  obtain ⟨a0, a1, -, a3, a4, a5, a6⟩ := hagree c
  obtain ⟨⟨hX, hW⟩, hb, hg⟩ := Cert.Pre_blocks_tile_finite.finite _ _ _ _ _ _ _ (hpre c)
  have hT : Covers (Cert.ReferenceIdeal.Loop.indices m' c) := by
    have hT := Cert.Pre_blocks_tile_finite.covers _ _ _ _ _ _ _ (hpre c)
    rw [← a1] at hT
    exact hT
  refine arrays_eq (image m c) (weights m c) (m ((c.tc : Thread Cert.KernelIdeal.nD Cert.KernelIdeal.τ).loc Cert.KernelIdeal.main_arg4))
    (scale m c) (shift m c) hX hW hb hg _ _ (fun o h w => ?_) (Cert.KernelIdeal.Value.result_eq m g c)
  refine (Cert.ReferenceIdeal.Loop.result_eq m' c hT o h w).trans ?_
  rw [a0, a3, a4, a5, a6]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_blocks_tile_finite
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_blocks_tile_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.Equation.reference_frame m ρ,
  fun m ρ _ => Cert.Equation.reference_frame m ρ,
  IdealRules.named_const.statement Cert.KernelIdeal.κ "inv_n" .f32 0x36E38E39#32 ((1 / 147456 : ℝ) : EReal) rfl,
  Cert.Equation.algebraic⟩

end Cert.Proof

end
